-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys_KernelIdeal [hPre_finite_queries_and_keys_KernelIdeal : Cert.Pre_finite_queries_and_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys_ReferenceIdeal [hPre_finite_queries_and_keys_ReferenceIdeal : Cert.Pre_finite_queries_and_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys_KernelIdeal [hKernelIdeal : Cert.KernelIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys_ReferenceIdeal [hReferenceIdeal : Cert.ReferenceIdeal.Facts] [hPre_finite_queries_and_keys_ReferenceIdeal : Cert.Pre_finite_queries_and_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_queries_and_keys_KernelIdeal [hKernelIdeal : Cert.KernelIdeal.Facts] [hReferenceIdeal : Cert.ReferenceIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys_KernelIdeal m →
    (∀ c : Dev Cert.KernelIdeal.nD,
      m ((c.tc : Thread Cert.KernelIdeal.nD Cert.KernelIdeal.τ).loc Cert.KernelIdeal.main_arg0) = Layout.blockN ⟨4, ![1, 1024, 16, 128]⟩ ⟨4, ![1, 2048, 16, 128]⟩ (Layout.meshBlock [2, 4, 4] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![1, 1024, 16, 128]⟩ ⟨4, ![1, 2048, 16, 128]⟩ (Layout.meshBlock [2, 4, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![1, 1024, 16, 128]⟩ ⟨4, ![1, 2048, 16, 128]⟩ (Layout.meshBlock [2, 4, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![1, 1024, 16, 128]⟩ ⟨4, ![1, 2048, 16, 128]⟩ (Layout.meshBlock [2, 4, 4] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_and_keys_KernelIdeal : Cert.Pre_finite_queries_and_keys_KernelIdeal.Facts) (hPre_finite_queries_and_keys_ReferenceIdeal : Cert.Pre_finite_queries_and_keys_ReferenceIdeal.Facts),
    quiescent_Kernel (hKernel := hKernel)
    ∧ quiescent_KernelIdeal (hKernelIdeal := hKernelIdeal)
    ∧ quiescent_KernelIdeal_pre_finite_queries_and_keys_KernelIdeal (hKernelIdeal := hKernelIdeal) (hPre_finite_queries_and_keys_KernelIdeal := hPre_finite_queries_and_keys_KernelIdeal)
    ∧ quiescent_ReferenceIdeal (hReferenceIdeal := hReferenceIdeal)
    ∧ quiescent_ReferenceIdeal_pre_finite_queries_and_keys_ReferenceIdeal (hReferenceIdeal := hReferenceIdeal) (hPre_finite_queries_and_keys_ReferenceIdeal := hPre_finite_queries_and_keys_ReferenceIdeal)
    ∧ preserves_Kernel_KernelIdeal
    ∧ algebraic_KernelIdeal_ReferenceIdeal_pre_finite_queries_and_keys_KernelIdeal (hKernelIdeal := hKernelIdeal) (hReferenceIdeal := hReferenceIdeal) (hPre_finite_queries_and_keys_KernelIdeal := hPre_finite_queries_and_keys_KernelIdeal)
-- ==== Pre_finite_queries_and_keys_KernelIdeal.lean ====
abbrev S1x1024x16x128 : Shape := ⟨4, ![1, 1024, 16, 128]⟩
abbrev S_ : Shape := ⟨0, ![]⟩

class Facts : Prop where
  bcast_S_S1x1024x16x128 : S_.BroadcastsInDim S1x1024x16x128 (![] : Fin 0 → Fin S1x1024x16x128.rank)
  reducesTo_S1x1024x16x128_S_d0_1_2_3 : S1x1024x16x128.ReducesTo [0, 1, 2, 3] S_
  h_S_ : 0 < S_.numel

variable [Facts]

def fn {F : FTy → Type} [FloatOps F] (main_arg0 : FVec F S1x1024x16x128 .f32) (main_arg1 : FVec F S1x1024x16x128 .f32) (main_arg2 : FVec F S1x1024x16x128 .f32) : IVec S_ 1 :=
  let main_v0 : FVec F S1x1024x16x128 .f32 := Host.absf main_arg0
  let main_cst : FVec F S_ .f32 := constant S_ .f32 0x7F800000#32
  let main_v1 : FVec F S1x1024x16x128 .f32 := broadcastInDim S1x1024x16x128 ![] bcast_S_S1x1024x16x128 main_cst
  let main_v2 : IVec S1x1024x16x128 1 := cmpf .olt main_v0 main_v1
  let main_c : IVec S_ 1 := constantI S_ 1 1#1
  let main_v3 : IVec S_ 1 := (fun x v => Host.reduce IntOp.andi x v reducesTo_S1x1024x16x128_S_d0_1_2_3 h_S_) main_v2 main_c
  let main_v4 : FVec F S1x1024x16x128 .f32 := Host.absf main_arg1
  let main_cst_0 : FVec F S_ .f32 := constant S_ .f32 0x7F800000#32
  let main_v5 : FVec F S1x1024x16x128 .f32 := broadcastInDim S1x1024x16x128 ![] bcast_S_S1x1024x16x128 main_cst_0
  let main_v6 : IVec S1x1024x16x128 1 := cmpf .olt main_v4 main_v5
  let main_c_1 : IVec S_ 1 := constantI S_ 1 1#1
  let main_v7 : IVec S_ 1 := (fun x v => Host.reduce IntOp.andi x v reducesTo_S1x1024x16x128_S_d0_1_2_3 h_S_) main_v6 main_c_1
  let main_v8 : IVec S_ 1 := andi main_v3 main_v7
  main_v8
-- ==== Pre_finite_queries_and_keys_ReferenceIdeal.lean ====
abbrev S1x2048x16x128 : Shape := ⟨4, ![1, 2048, 16, 128]⟩
abbrev S_ : Shape := ⟨0, ![]⟩

class Facts : Prop where
  bcast_S_S1x2048x16x128 : S_.BroadcastsInDim S1x2048x16x128 (![] : Fin 0 → Fin S1x2048x16x128.rank)
  reducesTo_S1x2048x16x128_S_d0_1_2_3 : S1x2048x16x128.ReducesTo [0, 1, 2, 3] S_
  h_S_ : 0 < S_.numel

variable [Facts]

def fn {F : FTy → Type} [FloatOps F] (main_arg0 : FVec F S1x2048x16x128 .f32) (main_arg1 : FVec F S1x2048x16x128 .f32) (main_arg2 : FVec F S1x2048x16x128 .f32) : IVec S_ 1 :=
  let main_v0 : FVec F S1x2048x16x128 .f32 := Host.absf main_arg0
  let main_cst : FVec F S_ .f32 := constant S_ .f32 0x7F800000#32
  let main_v1 : FVec F S1x2048x16x128 .f32 := broadcastInDim S1x2048x16x128 ![] bcast_S_S1x2048x16x128 main_cst
  let main_v2 : IVec S1x2048x16x128 1 := cmpf .olt main_v0 main_v1
  let main_c : IVec S_ 1 := constantI S_ 1 1#1
  let main_v3 : IVec S_ 1 := (fun x v => Host.reduce IntOp.andi x v reducesTo_S1x2048x16x128_S_d0_1_2_3 h_S_) main_v2 main_c
  let main_v4 : FVec F S1x2048x16x128 .f32 := Host.absf main_arg1
  let main_cst_0 : FVec F S_ .f32 := constant S_ .f32 0x7F800000#32
  let main_v5 : FVec F S1x2048x16x128 .f32 := broadcastInDim S1x2048x16x128 ![] bcast_S_S1x2048x16x128 main_cst_0
  let main_v6 : IVec S1x2048x16x128 1 := cmpf .olt main_v4 main_v5
  let main_c_1 : IVec S_ 1 := constantI S_ 1 1#1
  let main_v7 : IVec S_ 1 := (fun x v => Host.reduce IntOp.andi x v reducesTo_S1x2048x16x128_S_d0_1_2_3 h_S_) main_v6 main_c_1
  let main_v8 : IVec S_ 1 := andi main_v3 main_v7
  main_v8
-- ==== Kernel.lean ====
abbrev S1x1024x16x128 : Shape := ⟨4, ![1, 1024, 16, 128]⟩
abbrev S16x1024x128 : Shape := ⟨3, ![16, 1024, 128]⟩
abbrev S2x1024x128 : Shape := ⟨3, ![2, 1024, 128]⟩
abbrev S16x1024x1 : Shape := ⟨3, ![16, 1024, 1]⟩
abbrev S2x3 : Shape := ⟨2, ![2, 3]⟩
abbrev S2 : Shape := ⟨1, ![2]⟩
abbrev S16 : Shape := ⟨1, ![16]⟩
abbrev S1x1 : Shape := ⟨2, ![1, 1]⟩
abbrev S_ : Shape := ⟨0, ![]⟩
abbrev S1x1024x128 : Shape := ⟨3, ![1, 1024, 128]⟩
abbrev S1024x128 : Shape := ⟨2, ![1024, 128]⟩
abbrev S1x1024x1x128 : Shape := ⟨4, ![1, 1024, 1, 128]⟩
abbrev S1 : Shape := ⟨1, ![1]⟩
abbrev S1024x1024 : Shape := ⟨2, ![1024, 1024]⟩
abbrev S1024 : Shape := ⟨1, ![1024]⟩
abbrev S1024x1 : Shape := ⟨2, ![1024, 1]⟩
abbrev S1x1024x1 : Shape := ⟨3, ![1, 1024, 1]⟩

abbrev nBuf : Space → Nat
  | .hbm => 4
  | .vmem => 11
  | .smem => 0
  | _ => 0

abbrev bufTy : (tb : Table) → Fin (tcTables nBuf tb) → BufTy
  | .hbm, ⟨0, _⟩ => ⟨S1x1024x16x128, .f32⟩
  | .hbm, ⟨1, _⟩ => ⟨S1x1024x16x128, .f32⟩
  | .hbm, ⟨2, _⟩ => ⟨S1x1024x16x128, .f32⟩
  | .hbm, ⟨3, _⟩ => ⟨S1x1024x16x128, .f32⟩
  | .local _ .vmem, ⟨0, _⟩ => ⟨S16x1024x128, .bf16⟩
  | .local _ .vmem, ⟨1, _⟩ => ⟨S2x1024x128, .f32⟩
  | .local _ .vmem, ⟨2, _⟩ => ⟨S2x1024x128, .f32⟩
  | .local _ .vmem, ⟨3, _⟩ => ⟨S2x1024x128, .f32⟩
  | .local _ .vmem, ⟨4, _⟩ => ⟨S16x1024x128, .bf16⟩
  | .local _ .vmem, ⟨5, _⟩ => ⟨S16x1024x128, .bf16⟩
  | .local _ .vmem, ⟨6, _⟩ => ⟨S16x1024x128, .bf16⟩
  | .local _ .vmem, ⟨7, _⟩ => ⟨S16x1024x128, .bf16⟩
  | .local _ .vmem, ⟨8, _⟩ => ⟨S16x1024x128, .f32⟩
  | .local _ .vmem, ⟨9, _⟩ => ⟨S16x1024x1, .f32⟩
  | .local _ .vmem, ⟨10, _⟩ => ⟨S2x1024x128, .f32⟩
  | _, _ => ⟨S1x1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev barrier0 : Sem sig := 0

abbrev nD : Nat := 32
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_4 : BitVec 32 := 0#32
  let v13 : BitVec 1 := Scalar.cmpi .ne v12 c0_i32_4
  v13

def k0_cond2 (i : grid0.Coords) : BitVec 1 :=
  let arg1 : BitVec 32 := BitVec.ofNat 32 (i 1).val
  let c0_i32_7 : BitVec 32 := 0#32
  let v17 : BitVec 1 := Scalar.cmpi .eq arg1 c0_i32_7
  let v18 : BitVec 32 := Scalar.extui v17
  let c0_i32_8 : BitVec 32 := 0#32
  let v19 : BitVec 1 := Scalar.cmpi .ne v18 c0_i32_8
  v19

def k0_dev1 (d1 : Dev nD) : Nat :=
  let c0_i32_126 : BitVec 32 := 0#32
  let c1_i32_3 : BitVec 32 := 1#32
  let v1 : BitVec 32 := Dev.word d1
  let c16_i32 : BitVec 32 := 16#32
  let v2 : BitVec 32 := Scalar.divsi v1 c16_i32
  let c2_i32_0 : BitVec 32 := 2#32
  let v3 : BitVec 32 := Scalar.remsi v2 c2_i32_0
  let v10 : BitVec 32 := Scalar.subi c1_i32_3 v3
  let c16_i32_125 : BitVec 32 := 16#32
  let v156 : BitVec 32 := Scalar.muli v10 c16_i32_125
  let v157 : BitVec 32 := Scalar.addi c0_i32_126 v156
  let v4 : BitVec 32 := Dev.word d1
  let c4_i32_1 : BitVec 32 := 4#32
  let v5 : BitVec 32 := Scalar.divsi v4 c4_i32_1
  let c4_i32 : BitVec 32 := 4#32
  let v6 : BitVec 32 := Scalar.remsi v5 c4_i32
  let c4_i32_127 : BitVec 32 := 4#32
  let v158 : BitVec 32 := Scalar.muli v6 c4_i32_127
  let v159 : BitVec 32 := Scalar.addi v157 v158
  let v7 : BitVec 32 := Dev.word d1
  let c1_i32 : BitVec 32 := 1#32
  let v8 : BitVec 32 := Scalar.divsi v7 c1_i32
  let c4_i32_2 : BitVec 32 := 4#32
  let v9 : BitVec 32 := Scalar.remsi v8 c4_i32_2
  let c1_i32_128 : BitVec 32 := 1#32
  let v160 : BitVec 32 := Scalar.muli v9 c1_i32_128
  let v161 : BitVec 32 := Scalar.addi v159 v160
  v161.toNat
def k0_off1 (i : grid0.Coords) : Fin 2 → Nat :=
  let arg1 : BitVec 32 := BitVec.ofNat 32 (i 1).val
  let c2_i32 : BitVec 32 := 2#32
  let v0 : BitVec 32 := Scalar.remsi arg1 c2_i32
  let c0_i32_10 : BitVec 32 := 0#32
  ![v0.toNat, 0]
def k0_off2 (i : grid0.Coords) : Fin 3 → Nat :=
  let arg1 : BitVec 32 := BitVec.ofNat 32 (i 1).val
  let c2_i32 : BitVec 32 := 2#32
  let v0 : BitVec 32 := Scalar.remsi arg1 c2_i32
  let c0_i32_11 : BitVec 32 := 0#32
  let c0_i32_12 : BitVec 32 := 0#32
  ![v0.toNat, 0, 0]
def k0_off3 (i : grid0.Coords) : Fin 4 → Nat :=
  let c0_i32_9 : BitVec 32 := 0#32
  let c0_i32_13 : BitVec 32 := 0#32
  let arg1 : BitVec 32 := BitVec.ofNat 32 (i 1).val
  let c0_i32_14 : BitVec 32 := 0#32
  ![0, 0, arg1.toNat, 0]
def k0_off4 (i : grid0.Coords) : Fin 3 → Nat :=
  let arg1 : BitVec 32 := BitVec.ofNat 32 (i 1).val
  let c2_i32 : BitVec 32 := 2#32
  let v0 : BitVec 32 := Scalar.remsi arg1 c2_i32
  let v26 : Index := Scalar.indexCast v0
  let c0 : Index := 0#32
  let c0_15 : Index := 0#32
  ![v26.toNat, 0, 0]
def k0_off5 (i : grid0.Coords) : Fin 3 → Nat :=
  let arg1 : BitVec 32 := BitVec.ofNat 32 (i 1).val
  let v30 : Index := Scalar.indexCast arg1
  let c0_16 : Index := 0#32
  let c0_17 : Index := 0#32
  ![v30.toNat, 0, 0]
def k0_off6 (i : grid0.Coords) : Fin 1 → Nat :=
  let arg1 : BitVec 32 := BitVec.ofNat 32 (i 1).val
  ![arg1.toNat]
def k0_off7 (i : grid0.Coords) : Fin 3 → Nat :=
  let arg1 : BitVec 32 := BitVec.ofNat 32 (i 1).val
  let c0_i32_22 : BitVec 32 := 0#32
  let c0_i32_23 : BitVec 32 := 0#32
  ![arg1.toNat, 0, 0]
def k0_dev2 (d1 : Dev nD) : Nat :=
  let c0_i32_19 : BitVec 32 := 0#32
  let c1_i32_3 : BitVec 32 := 1#32
  let v1 : BitVec 32 := Dev.word d1
  let c16_i32 : BitVec 32 := 16#32
  let v2 : BitVec 32 := Scalar.divsi v1 c16_i32
  let c2_i32_0 : BitVec 32 := 2#32
  let v3 : BitVec 32 := Scalar.remsi v2 c2_i32_0
  let v10 : BitVec 32 := Scalar.subi c1_i32_3 v3
  let c16_i32_18 : BitVec 32 := 16#32
  let v34 : BitVec 32 := Scalar.muli v10 c16_i32_18
  let v35 : BitVec 32 := Scalar.addi c0_i32_19 v34
  let v4 : BitVec 32 := Dev.word d1
  let c4_i32_1 : BitVec 32 := 4#32
  let v5 : BitVec 32 := Scalar.divsi v4 c4_i32_1
  let c4_i32 : BitVec 32 := 4#32
  let v6 : BitVec 32 := Scalar.remsi v5 c4_i32
  let c4_i32_20 : BitVec 32 := 4#32
  let v36 : BitVec 32 := Scalar.muli v6 c4_i32_20
  let v37 : BitVec 32 := Scalar.addi v35 v36
  let v7 : BitVec 32 := Dev.word d1
  let c1_i32 : BitVec 32 := 1#32
  let v8 : BitVec 32 := Scalar.divsi v7 c1_i32
  let c4_i32_2 : BitVec 32 := 4#32
  let v9 : BitVec 32 := Scalar.remsi v8 c4_i32_2
  let c1_i32_21 : BitVec 32 := 1#32
  let v38 : BitVec 32 := Scalar.muli v9 c1_i32_21
  let v39 : BitVec 32 := Scalar.addi v37 v38
  v39.toNat
def k0_off8 (i : grid0.Coords) : Fin 2 → Nat :=
  let arg1 : BitVec 32 := BitVec.ofNat 32 (i 1).val
  let c2_i32 : BitVec 32 := 2#32
  let v0 : BitVec 32 := Scalar.remsi arg1 c2_i32
  let c1_i32_27 : BitVec 32 := 1#32
  ![v0.toNat, 1]
def k0_dev3 (d1 : Dev nD) : Nat :=
  let c0_i32_37 : BitVec 32 := 0#32
  let c1_i32_3 : BitVec 32 := 1#32
  let v1 : BitVec 32 := Dev.word d1
  let c16_i32 : BitVec 32 := 16#32
  let v2 : BitVec 32 := Scalar.divsi v1 c16_i32
  let c2_i32_0 : BitVec 32 := 2#32
  let v3 : BitVec 32 := Scalar.remsi v2 c2_i32_0
  let v10 : BitVec 32 := Scalar.subi c1_i32_3 v3
  let c16_i32_36 : BitVec 32 := 16#32
  let v62 : BitVec 32 := Scalar.muli v10 c16_i32_36
  let v63 : BitVec 32 := Scalar.addi c0_i32_37 v62
  let v4 : BitVec 32 := Dev.word d1
  let c4_i32_1 : BitVec 32 := 4#32
  let v5 : BitVec 32 := Scalar.divsi v4 c4_i32_1
  let c4_i32 : BitVec 32 := 4#32
  let v6 : BitVec 32 := Scalar.remsi v5 c4_i32
  let c4_i32_38 : BitVec 32 := 4#32
  let v64 : BitVec 32 := Scalar.muli v6 c4_i32_38
  let v65 : BitVec 32 := Scalar.addi v63 v64
  let v7 : BitVec 32 := Dev.word d1
  let c1_i32 : BitVec 32 := 1#32
  let v8 : BitVec 32 := Scalar.divsi v7 c1_i32
  let c4_i32_2 : BitVec 32 := 4#32
  let v9 : BitVec 32 := Scalar.remsi v8 c4_i32_2
  let c1_i32_39 : BitVec 32 := 1#32
  let v66 : BitVec 32 := Scalar.muli v9 c1_i32_39
  let v67 : BitVec 32 := Scalar.addi v65 v66
  v67.toNat
def k0_off9 (i : grid0.Coords) : Fin 2 → Nat :=
  let arg1 : BitVec 32 := BitVec.ofNat 32 (i 1).val
  let c2_i32 : BitVec 32 := 2#32
  let v0 : BitVec 32 := Scalar.remsi arg1 c2_i32
  let c2_i32_45 : BitVec 32 := 2#32
  ![v0.toNat, 2]
def k0_off10 (i : grid0.Coords) : Fin 3 → Nat :=
  let arg1 : BitVec 32 := BitVec.ofNat 32 (i 1).val
  let v102 : Index := Scalar.indexCast arg1
  let c0_60 : Index := 0#32
  let c0_61 : Index := 0#32
  ![v102.toNat, 0, 0]
def k0_cond3 (i : grid0.Coords) : BitVec 1 :=
  let arg1 : BitVec 32 := BitVec.ofNat 32 (i 1).val
  let c2_i32_67 : BitVec 32 := 2#32
  let v115 : BitVec 32 := Scalar.addi arg1 c2_i32_67
  let c16_i32_68 : BitVec 32 := 16#32
  let v116 : BitVec 1 := Scalar.cmpi .slt v115 c16_i32_68
  let v117 : BitVec 32 := Scalar.extui v116
  let c0_i32_69 : BitVec 32 := 0#32
  let v118 : BitVec 1 := Scalar.cmpi .ne v117 c0_i32_69
  v118

def k0_off11 (i : grid0.Coords) : Fin 2 → Nat :=
  let arg1 : BitVec 32 := BitVec.ofNat 32 (i 1).val
  let c2_i32 : BitVec 32 := 2#32
  let v0 : BitVec 32 := Scalar.remsi arg1 c2_i32
  let c0_i32_72 : BitVec 32 := 0#32
  ![v0.toNat, 0]
def k0_off12 (i : grid0.Coords) : Fin 3 → Nat :=
  let arg1 : BitVec 32 := BitVec.ofNat 32 (i 1).val
  let c2_i32 : BitVec 32 := 2#32
  let v0 : BitVec 32 := Scalar.remsi arg1 c2_i32
  let c0_i32_73 : BitVec 32 := 0#32
  let c0_i32_74 : BitVec 32 := 0#32
  ![v0.toNat, 0, 0]
def k0_off13 (i : grid0.Coords) : Fin 4 → Nat :=
  let c0_i32_71 : BitVec 32 := 0#32
  let c0_i32_75 : BitVec 32 := 0#32
  let arg1 : BitVec 32 := BitVec.ofNat 32 (i 1).val
  let c2_i32_70 : BitVec 32 := 2#32
  let v119 : BitVec 32 := Scalar.addi arg1 c2_i32_70
  let c0_i32_76 : BitVec 32 := 0#32
  ![0, 0, v119.toNat, 0]
def k0_off14 (i : grid0.Coords) : Fin 2 → Nat :=
  let arg1 : BitVec 32 := BitVec.ofNat 32 (i 1).val
  let c2_i32 : BitVec 32 := 2#32
  let v0 : BitVec 32 := Scalar.remsi arg1 c2_i32
  let c1_i32_79 : BitVec 32 := 1#32
  ![v0.toNat, 1]
def k0_off15 (i : grid0.Coords) : Fin 2 → Nat :=
  let arg1 : BitVec 32 := BitVec.ofNat 32 (i 1).val
  let c2_i32 : BitVec 32 := 2#32
  let v0 : BitVec 32 := Scalar.remsi arg1 c2_i32
  let c2_i32_86 : BitVec 32 := 2#32
  ![v0.toNat, 2]
def k0_cond4 (i : grid0.Coords) : BitVec 1 :=
  let arg0 : BitVec 32 := BitVec.ofNat 32 (i 0).val
  let c1_i32_5 : BitVec 32 := 1#32
  let v14 : BitVec 1 := Scalar.cmpi .eq arg0 c1_i32_5
  let v15 : BitVec 32 := Scalar.extui v14
  let c0_i32_6 : BitVec 32 := 0#32
  let v16 : BitVec 1 := Scalar.cmpi .ne v15 c0_i32_6
  v16

def k0_off16 (i : grid0.Coords) : Fin 1 → Nat :=
  let arg1 : BitVec 32 := BitVec.ofNat 32 (i 1).val
  ![arg1.toNat]
def k0_off17 (i : grid0.Coords) : Fin 3 → Nat :=
  let arg1 : BitVec 32 := BitVec.ofNat 32 (i 1).val
  let c0_i32_8 : BitVec 32 := 0#32
  let c0_i32_9 : BitVec 32 := 0#32
  ![arg1.toNat, 0, 0]
def k0_off18 (i : grid0.Coords) : Fin 3 → Nat :=
  let arg1 : BitVec 32 := BitVec.ofNat 32 (i 1).val
  let v53 : Index := Scalar.indexCast arg1
  let c0 : Index := 0#32
  let c0_33 : Index := 0#32
  ![v53.toNat, 0, 0]
def k0_cond5 (i : grid0.Coords) : BitVec 1 :=
  let arg1 : BitVec 32 := BitVec.ofNat 32 (i 1).val
  let c2_i32_40 : BitVec 32 := 2#32
  let v68 : BitVec 1 := Scalar.cmpi .sge arg1 c2_i32_40
  let v69 : BitVec 32 := Scalar.extui v68
  let c0_i32_41 : BitVec 32 := 0#32
  let v70 : BitVec 1 := Scalar.cmpi .ne v69 c0_i32_41
  v70

def k0_off19 (i : grid0.Coords) : Fin 1 → Nat :=
  let arg1 : BitVec 32 := BitVec.ofNat 32 (i 1).val
  let c2_i32 : BitVec 32 := 2#32
  let v0 : BitVec 32 := Scalar.remsi arg1 c2_i32
  ![v0.toNat]
def k0_off20 (i : grid0.Coords) : Fin 4 → Nat :=
  let c0_i32_55 : BitVec 32 := 0#32
  let c0_i32_56 : BitVec 32 := 0#32
  let arg1 : BitVec 32 := BitVec.ofNat 32 (i 1).val
  let c2_i32_54 : BitVec 32 := 2#32
  let v94 : BitVec 32 := Scalar.subi arg1 c2_i32_54
  let c0_i32_57 : BitVec 32 := 0#32
  ![0, 0, v94.toNat, 0]
def k0_off21 (i : grid0.Coords) : Fin 3 → Nat :=
  let arg1 : BitVec 32 := BitVec.ofNat 32 (i 1).val
  let c2_i32 : BitVec 32 := 2#32
  let v0 : BitVec 32 := Scalar.remsi arg1 c2_i32
  let c0_i32_58 : BitVec 32 := 0#32
  let c0_i32_59 : BitVec 32 := 0#32
  ![v0.toNat, 0, 0]
def k0_off22 (i : grid0.Coords) : Fin 3 → Nat :=
  let arg1 : BitVec 32 := BitVec.ofNat 32 (i 1).val
  let v75 : Index := Scalar.indexCast arg1
  let c0_44 : Index := 0#32
  let c0_45 : Index := 0#32
  ![v75.toNat, 0, 0]
def k0_off23 (i : grid0.Coords) : Fin 3 → Nat :=
  let arg1 : BitVec 32 := BitVec.ofNat 32 (i 1).val
  let c2_i32 : BitVec 32 := 2#32
  let v0 : BitVec 32 := Scalar.remsi arg1 c2_i32
  let v81 : Index := Scalar.indexCast v0
  let c0_46 : Index := 0#32
  let c0_47 : Index := 0#32
  ![v81.toNat, 0, 0]
def k0_off24 (i : grid0.Coords) : Fin 1 → Nat :=
  let arg1 : BitVec 32 := BitVec.ofNat 32 (i 1).val
  let c2_i32 : BitVec 32 := 2#32
  let v0 : BitVec 32 := Scalar.remsi arg1 c2_i32
  ![v0.toNat]
def k0_off25 (i : grid0.Coords) : Fin 4 → Nat :=
  let c0_i32_48 : BitVec 32 := 0#32
  let c0_i32_49 : BitVec 32 := 0#32
  let arg1 : BitVec 32 := BitVec.ofNat 32 (i 1).val
  let c0_i32_50 : BitVec 32 := 0#32
  ![0, 0, arg1.toNat, 0]
def k0_off26 (i : grid0.Coords) : Fin 3 → Nat :=
  let arg1 : BitVec 32 := BitVec.ofNat 32 (i 1).val
  let c2_i32 : BitVec 32 := 2#32
  let v0 : BitVec 32 := Scalar.remsi arg1 c2_i32
  let c0_i32_51 : BitVec 32 := 0#32
  let c0_i32_52 : BitVec 32 := 0#32
  ![v0.toNat, 0, 0]
def k0_cond6 (i : grid0.Coords) : BitVec 1 :=
  let arg1 : BitVec 32 := BitVec.ofNat 32 (i 1).val
  let c15_i32 : BitVec 32 := 15#32
  let v91 : BitVec 1 := Scalar.cmpi .eq arg1 c15_i32
  let v92 : BitVec 32 := Scalar.extui v91
  let c0_i32_53 : BitVec 32 := 0#32
  let v93 : BitVec 1 := Scalar.cmpi .ne v92 c0_i32_53
  v93

def k0_off27 (i : grid0.Coords) : Fin 1 → Nat :=
  let c1_i32_55 : BitVec 32 := 1#32
  let arg1 : BitVec 32 := BitVec.ofNat 32 (i 1).val
  let c2_i32 : BitVec 32 := 2#32
  let v0 : BitVec 32 := Scalar.remsi arg1 c2_i32
  let v95 : BitVec 32 := Scalar.subi c1_i32_55 v0
  ![v95.toNat]
def k0_off28 (i : grid0.Coords) : Fin 4 → Nat :=
  let c0_i32_56 : BitVec 32 := 0#32
  let c0_i32_57 : BitVec 32 := 0#32
  let arg1 : BitVec 32 := BitVec.ofNat 32 (i 1).val
  let c1_i32_54 : BitVec 32 := 1#32
  let v94 : BitVec 32 := Scalar.subi arg1 c1_i32_54
  let c0_i32_58 : BitVec 32 := 0#32
  ![0, 0, v94.toNat, 0]
def k0_off29 (i : grid0.Coords) : Fin 3 → Nat :=
  let c1_i32_55 : BitVec 32 := 1#32
  let arg1 : BitVec 32 := BitVec.ofNat 32 (i 1).val
  let c2_i32 : BitVec 32 := 2#32
  let v0 : BitVec 32 := Scalar.remsi arg1 c2_i32
  let v95 : BitVec 32 := Scalar.subi c1_i32_55 v0
  let c0_i32_59 : BitVec 32 := 0#32
  let c0_i32_60 : BitVec 32 := 0#32
  ![v95.toNat, 0, 0]
def k0_off30 (i : grid0.Coords) : Fin 1 → Nat :=
  let arg1 : BitVec 32 := BitVec.ofNat 32 (i 1).val
  let c2_i32 : BitVec 32 := 2#32
  let v0 : BitVec 32 := Scalar.remsi arg1 c2_i32
  ![v0.toNat]
def k0_off31 (i : grid0.Coords) : Fin 4 → Nat :=
  let c0_i32_61 : BitVec 32 := 0#32
  let c0_i32_62 : BitVec 32 := 0#32
  let arg1 : BitVec 32 := BitVec.ofNat 32 (i 1).val
  let c0_i32_63 : BitVec 32 := 0#32
  ![0, 0, arg1.toNat, 0]
def k0_off32 (i : grid0.Coords) : Fin 3 → Nat :=
  let arg1 : BitVec 32 := BitVec.ofNat 32 (i 1).val
  let c2_i32 : BitVec 32 := 2#32
  let v0 : BitVec 32 := Scalar.remsi arg1 c2_i32
  let c0_i32_64 : BitVec 32 := 0#32
  let c0_i32_65 : BitVec 32 := 0#32
  ![v0.toNat, 0, 0]
-- ==== ReferenceIdeal.lean ====
abbrev S1x2048x16x128 : Shape := ⟨4, ![1, 2048, 16, 128]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩

abbrev nBuf : Space → Nat
  | .hbm => 20
  | .vmem => 0
  | .smem => 0
  | _ => 0

abbrev bufTy : (tb : Table) → Fin (tcTables nBuf tb) → BufTy
  | .hbm, ⟨0, _⟩ => ⟨S1x2048x16x128, .f32⟩
  | .hbm, ⟨1, _⟩ => ⟨S1x2048x16x128, .f32⟩
  | .hbm, ⟨2, _⟩ => ⟨S1x2048x16x128, .f32⟩
  | .hbm, ⟨3, _⟩ => ⟨S1x16x2048x2048, .f32⟩
  | .hbm, ⟨4, _⟩ => ⟨S_, .f32⟩
  | .hbm, ⟨5, _⟩ => ⟨S1x16x2048x2048, .f32⟩
  | .hbm, ⟨6, _⟩ => ⟨S1x16x2048x2048, .f32⟩
  | .hbm, ⟨7, _⟩ => ⟨S_, .f32⟩
  | .hbm, ⟨8, _⟩ => ⟨S1x16x2048, .f32⟩
  | .hbm, ⟨9, _⟩ => ⟨S1x16x2048x1, .f32⟩
  | .hbm, ⟨10, _⟩ => ⟨S1x16x2048x2048, .f32⟩
  | .hbm, ⟨11, _⟩ => ⟨S1x16x2048x2048, .f32⟩
  | .hbm, ⟨12, _⟩ => ⟨S1x16x2048x2048, .f32⟩
  | .hbm, ⟨13, _⟩ => ⟨S_, .f32⟩
  | .hbm, ⟨14, _⟩ => ⟨S1x16x2048, .f32⟩
  | .hbm, ⟨15, _⟩ => ⟨S1x16x2048x1, .f32⟩
  | .hbm, ⟨16, _⟩ => ⟨S1x16x2048x2048, .f32⟩
  | .hbm, ⟨17, _⟩ => ⟨S1x16x2048x2048, .f32⟩
  | .hbm, ⟨18, _⟩ => ⟨S1x16x128x2048, .f32⟩
  | .hbm, ⟨19, _⟩ => ⟨S1x2048x16x128, .f32⟩
  | _, _ => ⟨S1x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Steps.lean ====
/-
# Steps: the kernel's memory operations on slices of its buffers

A slice of a buffer is owned at the contents read through it (`owns`). Each theorem here is one effect of the kernel
on such slices: a load, a store, a copy between two slices of one device, and the wait for it. The slice an effect
names is given by an offset that need only be EQUAL to the one owned, so that the kernel's own spellings of an offset
unify with the proof's.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.MemrefSat
public import Idealize.ShloMosaic.Lib.ViewIndex
public import Idealize.ShloMosaic.Lib.Tactic

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-! ## The resource algebra: the pipeline's rounds, the exchange's rounds, the local copies' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
abbrev EC : UEmb Counters (MT nD τ sig Unit (Elt F) ℕ UU ℕ) := countersEmb

abbrev 𝒱₀ : Variants := Variants.none

/-- The weakest precondition of a kernel operation sequence on device `c`'s TensorCore. -/
abbrev wpk (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps

variable (c : Dev nD) {α : Type} {Q : α → sProp (MT nD τ sig Unit (Elt F) ℕ UU ℕ)}

/-- A load through a buffer at the rectangle of an owned slice reads the slice's contents. -/
theorem wp_load_at {s : Shape} {e : EltTy} {M : Memref sig .tc .vmem s e} {off off' size : Fin s.rank → Nat}
    {inb : ∀ a, off a + size a ≤ s.size a} {inb' : ∀ a, off' a + size a ≤ s.size a} (ho : off = off')
    {hl : M.view.LoadsAt (Rect.unit off size inb).toLoadRect} {q : PosShare TreeShare} {X : (⟨s.rank, size⟩ : Shape).Idx → Elt F e}
    {k : ((⟨s.rank, size⟩ : Shape).Idx → Elt F e) → Prog (TpuEff nD τ sig (Elt F) Λ₀ .tc) α} :
    (ownsTc c (M.slice (Rect.unit off' size inb') (fun _ => rfl)) q X : sProp 𝕄)
      ⊢ iprop((ownsTc c (M.slice (Rect.unit off' size inb') (fun _ => rfl)) q X -∗ wpk c (k X) Q)
          -∗ wpk c (.op (.load M (Rect.unit off size inb).toLoadRect hl) k) Q) := by
  subst ho
  unfold ownsTc owns
  iintro ⟨%f, %hf, H⟩ Hk
  iapply (wp_load_rect 𝒱₀ (c : Thread nD τ) none Set.univ (m := M) (r := Rect.unit off size inb) Finset.Subset.rfl) $$ H
  iintro H
  have hf' : (M.access (Rect.unit off size inb)).read (Elt F) f = X := hf
  rw [hf']
  iapply Hk
  iexists f
  isplitr; · ipureintro; exact hf
  iexact H

/-- A store of every element at the rectangle of an owned slice leaves the slice at what was stored. -/
theorem wp_store_at {s : Shape} {e : EltTy} {M : Memref sig .tc .vmem s e} {off off' size : Fin s.rank → Nat}
    {inb : ∀ a, off a + size a ≤ s.size a} {inb' : ∀ a, off' a + size a ≤ s.size a} (ho : off = off')
    {w : (⟨s.rank, size⟩ : Shape).Idx → Elt F e} {hx : (M.access (Rect.unit off size inb)).Stores Finset.univ}
    {hm : (Finset.univ : Finset (Rect.unit off size inb).shape.Idx) = Finset.univ ∨ ∀ a, (Rect.unit off size inb).stride a = 1}
    {X : (⟨s.rank, size⟩ : Shape).Idx → Elt F e} {k : PUnit → Prog (TpuEff nD τ sig (Elt F) Λ₀ .tc) α} :
    (ownsTc c (M.slice (Rect.unit off' size inb') (fun _ => rfl)) fullShare X : sProp 𝕄)
      ⊢ iprop((ownsTc c (M.slice (Rect.unit off' size inb') (fun _ => rfl)) fullShare w -∗ wpk c (k ⟨⟩) Q)
          -∗ wpk c (.op (.store M (Rect.unit off size inb) w Finset.univ hx hm) k) Q) := by
  subst ho
  unfold ownsTc owns
  iintro ⟨%f, %hf, H⟩ Hk
  iapply (wp_store 𝒱₀ (c : Thread nD τ) none Set.univ (m := M) (r := Rect.unit off size inb) (Mk := Finset.univ)
    (show (M.access (Rect.unit off size inb)).setOn Finset.univ ⊆ (M.access (Rect.unit off size inb)).set from Finset.Subset.rfl)) $$ H
  iintro H
  iapply Hk
  iexists _
  isplitr
  · ipureintro; exact View.read_write_univ (v := M.access (Rect.unit off size inb)) f w
  iexact H

/-- Contents re-indexed in row-major order: what a copy between two slices of as many elements, both squeezed to one
    shape, leaves in its destination. -/
def moved {β : Type} {ss sd : Shape} (h : sd.numel = ss.numel) (X : ss.Idx → β) : sd.Idx → β := fun j => X (Shape.reshapeEquiv h j)

omit [FloatOps F] in
/-- Through a memref, the contents after a write through its squeeze: the written contents, re-indexed. -/
theorem read_write_squeeze {κ : Kind} {sp sp' : Space} {ss sd t : Shape} {e : EltTy} {Ms : Memref sig κ sp ss e} {Md : Memref sig κ sp' sd e}
    (qs : ss.Squeezes t) (qd : sd.Squeezes t) (f : Ms.view.ty.Contents (Elt F)) (g : Md.view.ty.Contents (Elt F))
    (h : sd.numel = ss.numel) :
    Md.view.read (Elt F) ((Md.squeeze t qd).view.write (Elt F) g ((Ms.squeeze t qs).view.read (Elt F) f) Finset.univ)
      = moved h (Ms.view.read (Elt F) f) := by
  funext j
  have hj : j = Shape.reshapeEquiv qd.numel_eq (Shape.reshapeEquiv qd.numel_eq.symm j) := by
    rw [Shape.reshapeEquiv_reshapeEquiv, Shape.reshapeEquiv_self]
  conv_lhs => rw [hj]
  refine (View.read_write_reshape (v := Md.view) qd.numel_eq _ _ _).trans ?_
  show Ms.view.read (Elt F) f (Shape.reshapeEquiv qs.numel_eq (Shape.reshapeEquiv qd.numel_eq.symm j)) = _
  rw [Shape.reshapeEquiv_reshapeEquiv]; rfl

/-- Owning a slice is holding the elements of its squeeze, at contents the slice reads alike. -/
theorem owns_squeeze {sp : Space} {s t : Shape} {e : EltTy} (M : Memref sig .tc sp s e) (hq : s.Squeezes t) (q : PosShare TreeShare) (X : s.Idx → Elt F e) :
    (ownsTc c M q X : sProp 𝕄) ⊢ iprop(∃ f, ⌜M.view.read (Elt F) f = X⌝ ∗ ((M.squeeze t hq).view.loc (c : Thread nD τ) ↦[(M.squeeze t hq).view.set]{q} f)) := by
  have hset : (M.squeeze t hq).view.set = M.view.set := View.set_reshape _ _
  unfold ownsTc owns
  iintro ⟨%f, %hf, H⟩
  iexists f
  isplitr; · ipureintro; exact hf
  rw [hset]; iexact H

/-- And back. -/
theorem owns_of_squeeze {sp : Space} {s t : Shape} {e : EltTy} (M : Memref sig .tc sp s e) (hq : s.Squeezes t) (q : PosShare TreeShare) {X : s.Idx → Elt F e}
    (f : M.view.ty.Contents (Elt F)) (hf : M.view.read (Elt F) f = X) :
    ((M.squeeze t hq).view.loc (c : Thread nD τ) ↦[(M.squeeze t hq).view.set]{q} f : sProp 𝕄) ⊢ ownsTc c M q X := by
  have hset : (M.squeeze t hq).view.set = M.view.set := View.set_reshape _ _
  subst hf
  rw [hset]
  exact owns_intro (c : Thread nD τ) M q f

/-- The start of a copy between two owned slices of one device, both squeezed to one shape: a flight that brings both
    back, the destination at the source's contents. -/
theorem wp_copy_at {sp sp' : Space} {ss sd t : Shape} {e : EltTy} {Ms : Memref sig .tc sp ss e} {Md : Memref sig .tc sp' sd e}
    {offs offs' sizes : Fin ss.rank → Nat} {inbs : ∀ a, offs a + sizes a ≤ ss.size a} {inbs' : ∀ a, offs' a + sizes a ≤ ss.size a} (hs : offs = offs')
    {offd offd' sized : Fin sd.rank → Nat} {inbd : ∀ a, offd a + sized a ≤ sd.size a} {inbd' : ∀ a, offd' a + sized a ≤ sd.size a} (hd : offd = offd')
    {qs : (⟨ss.rank, sizes⟩ : Shape).Squeezes t} {qd : (⟨sd.rank, sized⟩ : Shape).Squeezes t}
    {sm sm' : DmaSem sig} (hsm : sm = sm') (hn : (⟨sd.rank, sized⟩ : Shape).numel = (⟨ss.rank, sizes⟩ : Shape).numel)
    {N : ℕ} (hN : (((Md.slice (Rect.unit offd' sized inbd') (fun _ => rfl)).squeeze t qd).view.dmaCredit) = N) (hN0 : 0 < N)
    {hsrc : ((Ms.slice (Rect.unit offs sizes inbs) (fun _ => rfl)).squeeze t qs).view.WordExact}
    {hdst : ((Md.slice (Rect.unit offd sized inbd) (fun _ => rfl)).squeeze t qd).view.WordExact}
    {hsem : DmaTarget.Typed (nD := nD) (τ := τ) (p := .tc) sp (.dma sm) (.here ((Md.slice (Rect.unit offd sized inbd) (fun _ => rfl)).squeeze t qd))}
    {q : PosShare TreeShare} {X : (⟨ss.rank, sizes⟩ : Shape).Idx → Elt F e} {Y : (⟨sd.rank, sized⟩ : Shape).Idx → Elt F e}
    {k : PUnit → Prog (TpuEff nD τ sig (Elt F) Λ₀ .tc) α} :
    iprop(ownsTc c (Ms.slice (Rect.unit offs' sizes inbs') (fun _ => rfl)) q X
        ∗ ownsTc c (Md.slice (Rect.unit offd' sized inbd') (fun _ => rfl)) fullShare Y ∗ semVal ((c : Thread nD τ), .dma sm') 0)
      ⊢ iprop((Flight EC (c : Thread nD τ) (.dma sm') () N
              iprop(ownsTc c (Md.slice (Rect.unit offd' sized inbd') (fun _ => rfl)) fullShare (moved hn X)
                ∗ ownsTc c (Ms.slice (Rect.unit offs' sizes inbs') (fun _ => rfl)) q X) -∗ wpk c (k ⟨⟩) Q)
          -∗ wpk c (.op (.enqueueDma ((Ms.slice (Rect.unit offs sizes inbs) (fun _ => rfl)).squeeze t qs)
              (.here ((Md.slice (Rect.unit offd sized inbd) (fun _ => rfl)).squeeze t qd)) (.dma sm) hsrc hdst hsem) k) Q) := by
  subst hs hd hsm
  have hset : ((Ms.slice (Rect.unit offs sizes inbs) (fun _ => rfl)).squeeze t qs).view.set
      = (Ms.slice (Rect.unit offs sizes inbs) (fun _ => rfl)).view.set := View.set_reshape _ _
  have hm (g : (Md.slice (Rect.unit offd sized inbd) (fun _ => rfl)).view.ty.Contents (Elt F))
      (f : (Ms.slice (Rect.unit offs sizes inbs) (fun _ => rfl)).view.ty.Contents (Elt F))
      (hf : (Ms.slice (Rect.unit offs sizes inbs) (fun _ => rfl)).view.read (Elt F) f = X) :
      (iprop((((Md.slice (Rect.unit offd sized inbd) (fun _ => rfl)).squeeze t qd).view.loc (c : Thread nD τ)
              ↦[(Md.slice (Rect.unit offd sized inbd) (fun _ => rfl)).view.set]{fullShare}
            ((Md.slice (Rect.unit offd sized inbd) (fun _ => rfl)).squeeze t qd).view.write (Elt F) g
              (ReadAs.same.apply (((Ms.slice (Rect.unit offs sizes inbs) (fun _ => rfl)).squeeze t qs).view.read (Elt F) f)) Finset.univ)
          ∗ (((Ms.slice (Rect.unit offs sizes inbs) (fun _ => rfl)).squeeze t qs).view.loc (c : Thread nD τ)
              ↦[((Ms.slice (Rect.unit offs sizes inbs) (fun _ => rfl)).squeeze t qs).view.set]{q} f)) : sProp (MT nD τ sig Unit (Elt F) ℕ UU ℕ))
        ⊢ iprop(ownsTc c (Md.slice (Rect.unit offd sized inbd) (fun _ => rfl)) fullShare (moved hn X)
          ∗ ownsTc c (Ms.slice (Rect.unit offs sizes inbs) (fun _ => rfl)) q X) := by
    rw [hset]
    unfold ownsTc owns
    iintro ⟨Hd, Hs⟩
    isplitl [Hd]
    · iexists _
      isplitr
      · ipureintro
        exact (read_write_squeeze (Ms := Ms.slice (Rect.unit offs sizes inbs) (fun _ => rfl)) (Md := Md.slice (Rect.unit offd sized inbd) (fun _ => rfl)) qs qd f g hn).trans
          (congrArg (moved hn) hf)
      iexact Hd
    · iexists f
      isplitr; · ipureintro; exact hf
      iexact Hs
  unfold ownsTc owns at *
  iintro ⟨⟨%f, %hf, Hs⟩, ⟨%g, %hg, Hd⟩, Hv⟩ Hk
  iapply (wp_dmaLocal EC 𝒱₀ (c : Thread nD τ) none () N (sm := .dma sm) hN hN0
    (src := (Ms.slice (Rect.unit offs sizes inbs) (fun _ => rfl)).squeeze t qs)
    (dst := (Md.slice (Rect.unit offd sized inbd) (fun _ => rfl)).squeeze t qd) (fs := f) (fd := g)
    (Sd := (Md.slice (Rect.unit offd sized inbd) (fun _ => rfl)).view.set) (q := q)
    (Finset.Subset.trans (show _ ⊆ (Md.slice (Rect.unit offd sized inbd) (fun _ => rfl)).view.set from (View.set_reshape _ _).subset) Finset.Subset.rfl)) $$ [Hs Hd Hv]
  · isplitl [Hs]
    · rw [hset]; iexact Hs
    isplitl [Hd]; · iexact Hd
    iexact Hv
  iintro Hf
  iapply Hk
  iapply (Flight_mono EC (c : Thread nD τ) (hm g f hf)) $$ Hf

/-- The wait for such a copy. -/
theorem wp_wait_at {sp sp' : Space} {s' s : Shape} {e' e : EltTy} {sm sm' : DmaSem sig} (hsm : sm = sm')
    {srcw : Memref sig .tc sp' s' e'} {dstw : Memref sig .tc sp s e} {hsrc : srcw.view.WordExact} {hdst : dstw.view.WordExact}
    {k : PUnit → Prog (TpuEff nD τ sig (Elt F) Λ₀ .tc) α} {N : ℕ} (hN : dstw.view.dmaCredit = N) {D : sProp (MT nD τ sig Unit (Elt F) ℕ UU ℕ)}
    {O : CellTallies nD τ sig Unit} {W : Waits sig Unit} :
    iprop(Flight EC (c : Thread nD τ) (.dma sm') () N D ∗ owes (c : Thread nD τ) O W ∗ MayWait (c : Thread nD τ) (.dma sm') () O)
      ⊢ iprop((iprop(D ∗ semVal ((c : Thread nD τ), .dma sm') 0 ∗ owes (c : Thread nD τ) O (insert (SemLoc.dma sm', ()) W)) -∗ wpk c (k ⟨⟩) Q)
          -∗ wpk c (.op (.waitDma2 sm srcw dstw hsrc hdst) k) Q) := by
  subst hsm
  exact wp_waitLocalO EC 𝒱₀ (c : Thread nD τ) none () hN

end Steps

end Cert.AttnProof

end
-- ==== Proof.Sched.lean ====
module
public import proofs.«01_k».proof.Proof.Steps
@[expose] public section
noncomputable section
namespace Cert.AttnProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
variable {F : FTy → Type} [FloatOps F]
local notation "𝕄" => MT nD τ sig Unit (Elt F) ℕ UU ℕ

variable (m : (ℓ : Loc nD τ sig) → Buf (Elt F) ℓ) (ρ : Dev nD → PrngReg)

/-! ## The pairs -/

/-- The device that differs from `c` in its place on the axis the sequence is cut over. -/
def peer (c : Dev nD) : Dev nD := ⟨(c.val + 16) % 32, Nat.mod_lt _ (by decide)⟩

theorem peer_peer (c : Dev nD) : peer (peer c) = c := by revert c; decide
theorem dev1_eq (c : Dev nD) : k0_dev1 c = (peer c).val := by rw [k0_dev1_eq]; revert c; decide
theorem dev2_eq (c : Dev nD) : k0_dev2 c = (peer c).val := by rw [k0_dev2_eq]; revert c; decide
theorem dev3_eq (c : Dev nD) : k0_dev3 c = (peer c).val := by rw [k0_dev3_eq]; revert c; decide

/-! ## Buffers, slices and semaphores -/

abbrev qM : Memref sig .tc .hbm S1x1024x16x128 .f32 := Memref.whole main_arg0
abbrev kM : Memref sig .tc .hbm S1x1024x16x128 .f32 := Memref.whole main_arg1
abbrev vM : Memref sig .tc .hbm S1x1024x16x128 .f32 := Memref.whole main_arg2
abbrev oM : Memref sig .tc .hbm S1x1024x16x128 .f32 := Memref.whole main_v1
abbrev qsM : Memref sig .tc .vmem S16x1024x128 .bf16 := Memref.whole cc0_scratch0
abbrev qbM : Memref sig .tc .vmem S2x1024x128 .f32 := Memref.whole cc0_scratch1
abbrev kbM : Memref sig .tc .vmem S2x1024x128 .f32 := Memref.whole cc0_scratch2
abbrev vbM : Memref sig .tc .vmem S2x1024x128 .f32 := Memref.whole cc0_scratch3
abbrev ksM : Memref sig .tc .vmem S16x1024x128 .bf16 := Memref.whole cc0_scratch4
abbrev vsM : Memref sig .tc .vmem S16x1024x128 .bf16 := Memref.whole cc0_scratch5
abbrev krM : Memref sig .tc .vmem S16x1024x128 .bf16 := Memref.whole cc0_scratch6
abbrev vrM : Memref sig .tc .vmem S16x1024x128 .bf16 := Memref.whole cc0_scratch7
abbrev oaM : Memref sig .tc .vmem S16x1024x128 .f32 := Memref.whole cc0_scratch8
abbrev laM : Memref sig .tc .vmem S16x1024x1 .f32 := Memref.whole cc0_scratch9
abbrev obM : Memref sig .tc .vmem S2x1024x128 .f32 := Memref.whole cc0_scratch10

theorem inb_col (h : Fin 16) : ∀ a, (![0, 0, h.val, 0] : Fin 4 → Nat) a + S1x1024x1x128.size a ≤ S1x1024x16x128.size a := by revert h; decide
theorem inb_slab (h : Fin 16) : ∀ a, (![h.val, 0, 0] : Fin 3 → Nat) a + S1x1024x128.size a ≤ S16x1024x128.size a := by revert h; decide
theorem inb_lslab (h : Fin 16) : ∀ a, (![h.val, 0, 0] : Fin 3 → Nat) a + S1x1024x1.size a ≤ S16x1024x1.size a := by revert h; decide
theorem inb_slot (s : Fin 2) : ∀ a, (![s.val, 0, 0] : Fin 3 → Nat) a + S1x1024x128.size a ≤ S2x1024x128.size a := by revert s; decide

/-- Head `h` of a whole operand or result, -/
abbrev colR (h : Fin 16) : Rect S1x1024x16x128 := Rect.unit ![0, 0, h.val, 0] S1x1024x1x128.size (inb_col h)
/-- of a scratch buffer with a place for every head, -/
abbrev slabR (h : Fin 16) : Rect S16x1024x128 := Rect.unit ![h.val, 0, 0] S1x1024x128.size (inb_slab h)
/-- of the buffer of the row sums; -/
abbrev lslabR (h : Fin 16) : Rect S16x1024x1 := Rect.unit ![h.val, 0, 0] S1x1024x1.size (inb_lslab h)
/-- one of the two places of a staging buffer. -/
abbrev slotR (s : Fin 2) : Rect S2x1024x128 := Rect.unit ![s.val, 0, 0] S1x1024x128.size (inb_slot s)

abbrev col (M : Memref sig .tc .hbm S1x1024x16x128 .f32) (h : Fin 16) : Memref sig .tc .hbm S1x1024x1x128 .f32 := M.slice (colR h) (fun _ => rfl)
abbrev slab {e : EltTy} (M : Memref sig .tc .vmem S16x1024x128 e) (h : Fin 16) : Memref sig .tc .vmem S1x1024x128 e := M.slice (slabR h) (fun _ => rfl)
abbrev lslab (M : Memref sig .tc .vmem S16x1024x1 .f32) (h : Fin 16) : Memref sig .tc .vmem S1x1024x1 .f32 := M.slice (lslabR h) (fun _ => rfl)
abbrev slot (M : Memref sig .tc .vmem S2x1024x128 .f32) (s : Fin 2) : Memref sig .tc .vmem S1x1024x128 .f32 := M.slice (slotR s) (fun _ => rfl)

/-- The barrier semaphore; -/
abbrev barS : Sem sig := (SemArray.scalar (sig.barrier 0 rfl) : Sems sig S_).sem
/-- the semaphore of place `s` of the loads of the keys (0), the values (1), the queries (2); -/
def ldS (s : Fin 2) (a : Fin 3) : DmaSem sig := ⟨3 * s.val + a.val, by revert s a; decide⟩
/-- of place `s` of the stores of the result; -/
def stS (s : Fin 2) : DmaSem sig := ⟨6 + s.val, by revert s; decide⟩
/-- of head `h` of what is sent of the keys (0) and the values (1) and received of the keys (2) and the values (3). -/
def xS (a : Fin 4) (h : Fin 16) : DmaSem sig := ⟨8 + 16 * a.val + h.val, by revert a h; decide⟩

theorem inb_ldS (s : Fin 2) (a : Fin 3) : ∀ x, (![s.val, a.val] : Fin 2 → Nat) x + S1x1.size x ≤ S2x3.size x := by revert s a; decide
theorem inb_stS (s : Fin 2) : ∀ x, (![s.val] : Fin 1 → Nat) x + S1.size x ≤ S2.size x := by revert s; decide
theorem inb_xS (h : Fin 16) : ∀ x, (![h.val] : Fin 1 → Nat) x + S1.size x ≤ S16.size x := by revert h; decide

theorem ldS_eq {off : Fin 2 → Nat} {inb : ∀ x, off x + S1x1.size x ≤ S2x3.size x} {hq : S1x1.Squeezes S_} (s : Fin 2) (a : Fin 3) (ho : off = ![s.val, a.val]) :
    (((cc0_scratch11 : DmaSems sig S2x3).slice (Rect.unit off S1x1.size inb)).squeeze S_ hq).sem = ldS s a := by
  subst ho
  apply Fin.ext
  have key (j : (Rect.unit (s := S2x3) ![s.val, a.val] S1x1.size inb).shape.Idx) :
      (S2x3.rowMajor ((Rect.unit (s := S2x3) ![s.val, a.val] S1x1.size inb).emb j)).val = 3 * s.val + a.val := by
    refine (Shape.rowMajor_val_two _).trans ?_
    rw [Rect.emb_apply, Rect.emb_apply]
    have h0 : (j 0).val < 1 := (j 0).isLt
    have h1 : (j 1).val < 1 := (j 1).isLt
    show (s.val + 1 * (j 0).val) * 3 + (a.val + 1 * (j 1).val) = 3 * s.val + a.val
    omega
  exact (congrArg (0 + ·) (key _)).trans (Nat.zero_add _)
theorem cons_val {n base k : ℕ} (hb : base + (⟨1, ![k]⟩ : Shape).numel ≤ n) {off : Fin 1 → Nat} {inb : ∀ x, off x + S1.size x ≤ (⟨1, ![k]⟩ : Shape).size x} {hq : S1.Squeezes S_} (h : ℕ) (ho : off = ![h]) :
    ((((SemArray.consecutive base (⟨1, ![k]⟩ : Shape) hb).slice (Rect.unit off S1.size inb)).squeeze S_ hq).sem : Fin n).val = base + h := by
  subst ho
  have key (j : (Rect.unit (s := (⟨1, ![k]⟩ : Shape)) ![h] S1.size inb).shape.Idx) : ((⟨1, ![k]⟩ : Shape).rowMajor ((Rect.unit (s := (⟨1, ![k]⟩ : Shape)) ![h] S1.size inb).emb j)).val = h := by
    refine (Shape.rowMajor_val_one _).trans ?_
    rw [Rect.emb_apply]
    have := (j 0).isLt
    show h + 1 * (j 0).val = h
    have : (j 0).val < 1 := this
    omega
  exact congrArg (base + ·) (key _)
theorem stS_eq {off : Fin 1 → Nat} {inb : ∀ x, off x + S1.size x ≤ S2.size x} {hq : S1.Squeezes S_} (s : Fin 2) (ho : off = ![s.val]) :
    (((cc0_scratch12 : DmaSems sig S2).slice (Rect.unit off S1.size inb)).squeeze S_ hq).sem = stS s := Fin.ext (cons_val _ s.val ho)
theorem xS0_eq {off : Fin 1 → Nat} {inb : ∀ x, off x + S1.size x ≤ S16.size x} {hq : S1.Squeezes S_} (h : Fin 16) (ho : off = ![h.val]) :
    (((cc0_scratch13 : DmaSems sig S16).slice (Rect.unit off S1.size inb)).squeeze S_ hq).sem = xS 0 h := Fin.ext (cons_val _ h.val ho)
theorem xS1_eq {off : Fin 1 → Nat} {inb : ∀ x, off x + S1.size x ≤ S16.size x} {hq : S1.Squeezes S_} (h : Fin 16) (ho : off = ![h.val]) :
    (((cc0_scratch14 : DmaSems sig S16).slice (Rect.unit off S1.size inb)).squeeze S_ hq).sem = xS 1 h := Fin.ext (cons_val _ h.val ho)
theorem xS2_eq {off : Fin 1 → Nat} {inb : ∀ x, off x + S1.size x ≤ S16.size x} {hq : S1.Squeezes S_} (h : Fin 16) (ho : off = ![h.val]) :
    (((cc0_scratch15 : DmaSems sig S16).slice (Rect.unit off S1.size inb)).squeeze S_ hq).sem = xS 2 h := Fin.ext (cons_val _ h.val ho)
theorem xS3_eq {off : Fin 1 → Nat} {inb : ∀ x, off x + S1.size x ≤ S16.size x} {hq : S1.Squeezes S_} (h : Fin 16) (ho : off = ![h.val]) :
    (((cc0_scratch16 : DmaSems sig S16).slice (Rect.unit off S1.size inb)).squeeze S_ hq).sem = xS 3 h := Fin.ext (cons_val _ h.val ho)

theorem sq3 : S1x1024x128.Squeezes S1024x128 := by decide
theorem sq4 : S1x1024x1x128.Squeezes S1024x128 := by decide
/-- The credit of a load of one head, -/
abbrev NL : ℕ := ((slot kbM 0).squeeze S1024x128 sq3).view.dmaCredit
/-- of a store of one head, -/
abbrev NS : ℕ := ((col oM 0).squeeze S1024x128 sq4).view.dmaCredit
/-- of a transfer of one head to the peer. -/
abbrev NX : ℕ := ((slab krM 0).squeeze S1024x128 sq3).view.dmaCredit

theorem NL_pos : 0 < NL := View.dmaCredit_pos _ (by decide)
theorem NS_pos : 0 < NS := View.dmaCredit_pos _ (by decide)
theorem NX_pos : 0 < NX := View.dmaCredit_pos _ (by decide)
theorem NL_kb (s : Fin 2) : ((slot kbM s).squeeze S1024x128 sq3).view.dmaCredit = NL := rfl
theorem NL_vb (s : Fin 2) : ((slot vbM s).squeeze S1024x128 sq3).view.dmaCredit = NL := rfl
theorem NL_qb (s : Fin 2) : ((slot qbM s).squeeze S1024x128 sq3).view.dmaCredit = NL := rfl
theorem NS_o (h : Fin 16) : ((col oM h).squeeze S1024x128 sq4).view.dmaCredit = NS := rfl
theorem NX_kr (h : Fin 16) : ((slab krM h).squeeze S1024x128 sq3).view.dmaCredit = NX := rfl
theorem NX_vr (h : Fin 16) : ((slab vrM h).squeeze S1024x128 sq3).view.dmaCredit = NX := rfl
theorem NX_ks (h : Fin 16) : ((slab ksM h).squeeze S1024x128 sq3).view.dmaCredit = NX := rfl
theorem NX_vs (h : Fin 16) : ((slab vsM h).squeeze S1024x128 sq3).view.dmaCredit = NX := rfl

/-! ## Contents -/

abbrev argQ (c : Dev nD) : S1x1024x16x128.Idx → Elt F .f32 := m ((c : Thread nD τ).loc main_arg0)
abbrev argK (c : Dev nD) : S1x1024x16x128.Idx → Elt F .f32 := m ((c : Thread nD τ).loc main_arg1)
abbrev argV (c : Dev nD) : S1x1024x16x128.Idx → Elt F .f32 := m ((c : Thread nD τ).loc main_arg2)

def colOf (A : S1x1024x16x128.Idx → Elt F .f32) (h : Fin 16) : S1x1024x1x128.Idx → Elt F .f32 := fun j => A ((colR h).emb j)

theorem numel_ld : S1x1024x128.numel = S1x1024x1x128.numel := by decide
theorem numel_st : S1x1024x1x128.numel = S1x1024x128.numel := by decide

/-- Head `h` of an operand as a load leaves it in its place. -/
def ldd (A : S1x1024x16x128.Idx → Elt F .f32) (h : Fin 16) : S1x1024x128.Idx → Elt F .f32 := moved numel_ld (colOf A h)

/-- Device `c`'s keys and values of head `h` in the half-width format, and its scaled queries; -/
def KB (c : Dev nD) (h : Fin 16) : S1x1024x128.Idx → Elt F .bf16 := k0_pay1 (ldd (argK m c) h)
def VB (c : Dev nD) (h : Fin 16) : S1x1024x128.Idx → Elt F .bf16 := k0_pay2 (ldd (argV m c) h)
def QS (c : Dev nD) (h : Fin 16) : S1x1024x128.Idx → Elt F .bf16 := k0_pay3 (ldd (argQ m c) h)
/-- the row sums and the weighted values against its own keys; -/
def LA (c : Dev nD) (h : Fin 16) : S1x1024x1.Idx → Elt F .f32 := k0_pay5 (QS m c h) (KB m c h)
def OA (c : Dev nD) (h : Fin 16) : S1x1024x128.Idx → Elt F .f32 := k0_pay6 (QS m c h) (KB m c h) (VB m c h)
/-- head `h` of its result. -/
def OB (c : Dev nD) (h : Fin 16) : S1x1024x128.Idx → Elt F .f32 :=
  k0_pay7 (QS m c h) (KB m (peer c) h) (VB m (peer c) h) (OA m c h) (LA m c h)
/-- That as it lies in the result. -/
def OC (c : Dev nD) (h : Fin 16) : S1x1024x1x128.Idx → Elt F .f32 := moved numel_st (OB m c h)

/-! ## The schedule -/

abbrev barCell (c : Dev nD) : GSem nD τ sig := ((c : Thread nD τ), .reg barS)
abbrev xCell (c : Dev nD) (a : Fin 4) (h : Fin 16) : GSem nD τ sig := ((c : Thread nD τ), .dma (xS a h))

/-- A slice owned whole, whatever it holds. -/
abbrev some1 {sp : Space} {s : Shape} {e : EltTy} (c : Dev nD) (M : Memref sig .tc sp s e) : sProp 𝕄 := iprop(∃ X, ownsTc c M fullShare X)

/-- The landing places of a device. -/
def landing (c : Dev nD) (h : Fin 16) : sProp 𝕄 := iprop(some1 (F := F) c (slab krM h) ∗ some1 (F := F) c (slab vrM h))
/-- What the peer's signal hands `c`: the peer's landing places. -/
def barPay (c : Dev nD) : sProp 𝕄 := bigSep Finset.univ fun h : Fin 16 => landing (F := F) (peer c) h

/-- What a transfer hands the waiter at semaphore `xS a h`: the sender's lent share of what it sent (0, 1), the landing
    place holding what the peer sent (2, 3). -/
def xPay (c : Dev nD) (a : Fin 4) (h : Fin 16) : sProp 𝕄 := match a with
  | 0 => ownsTc c (slab ksM h) fullShare.left (KB m c h)
  | 1 => ownsTc c (slab vsM h) fullShare.left (VB m c h)
  | 2 => ownsTc c (slab krM h) fullShare (KB m (peer c) h)
  | 3 => ownsTc c (slab vrM h) fullShare (VB m (peer c) h)

omit [FloatOps F] in
instance landing_storable (c : Dev nD) (h : Fin 16) : BI.Storable (upEmb : UEmb _ 𝕄) (landing (F := F) c h) := by unfold landing; infer_instance
omit [FloatOps F] in
instance barPay_storable (c : Dev nD) : BI.Storable (upEmb : UEmb _ 𝕄) (barPay (F := F) c) := by unfold barPay; infer_instance
instance xPay_storable (c : Dev nD) (a : Fin 4) (h : Fin 16) : BI.Storable (upEmb : UEmb _ 𝕄) (xPay m c a h) := by
  unfold xPay; split <;> infer_instance

/-- The head and the direction of a semaphore of the transfers. -/
def xA (s : DmaSem sig) : Fin 4 := ⟨(s.val - 8) / 16 % 4, Nat.mod_lt _ (by decide)⟩
def xH (s : DmaSem sig) : Fin 16 := ⟨(s.val - 8) % 16, Nat.mod_lt _ (by decide)⟩
theorem xA_xS (a : Fin 4) (h : Fin 16) : xA (xS a h) = a := by revert a h; decide
theorem xH_xS (a : Fin 4) (h : Fin 16) : xH (xS a h) = h := by revert a h; decide
theorem xS_ge (a : Fin 4) (h : Fin 16) : 8 ≤ (xS a h).val := by revert a h; decide
theorem xS_inj {a a' : Fin 4} {h h' : Fin 16} (e : xS a h = xS a' h') : a = a' ∧ h = h' :=
  ⟨by rw [← xA_xS a h, e, xA_xS], by rw [← xH_xS a h, e, xH_xS]⟩

def used : SemLoc sig → Prop
  | .reg s => s = barS
  | .dma s => 8 ≤ s.val
instance : DecidablePred used := fun s => by cases s <;> unfold used <;> infer_instance

/-- One round: a device's barrier waits for one unit, from its peer; every semaphore of the transfers for one transfer. -/
def Rd : Rounds.Schedule (GSem nD τ sig) Unit 𝕄 where
  duties g r := if r = 0 ∧ g.1.2 = .tc ∧ used g.2 then {()} else ∅
  unitless _ := False
  amount g _ _ := match g.2 with | .reg _ => 1 | .dma _ => NX
  payload g _ _ := match g.2 with | .reg _ => barPay g.1.1 | .dma s => xPay m g.1.1 (xA s) (xH s)
  amount_pos g _ _ _ := by split; exacts [Nat.one_pos, NX_pos]

instance Rd_payload_storable (g : GSem nD τ sig) (r : ℕ) (d : Unit) : BI.Storable (upEmb : UEmb _ 𝕄) ((Rd (F := F) m).payload g r d) := by
  show BI.Storable upEmb (match g.2 with | .reg _ => barPay g.1.1 | .dma s => xPay m g.1.1 (xA s) (xH s))
  split <;> infer_instance

section Sched
variable (c : Dev nD) (a : Fin 4) (h : Fin 16)

theorem duties_bar : (Rd (F := F) m).duties (barCell c) 0 = {()} := by dsimp only [Rd]; exact if_pos ⟨rfl, rfl, rfl⟩
theorem duties_x : (Rd (F := F) m).duties (xCell c a h) 0 = {()} := by dsimp only [Rd]; exact if_pos ⟨rfl, rfl, xS_ge a h⟩
theorem duties_later (g : GSem nD τ sig) : ∀ r, 1 ≤ r → (Rd (F := F) m).duties g r = ∅ := fun r hr => by dsimp only [Rd]; exact if_neg fun h => by omega
theorem amount_bar : (Rd (F := F) m).amount (barCell c) 0 () = 1 := rfl
theorem amount_x : (Rd (F := F) m).amount (xCell c a h) 0 () = NX := rfl
theorem expect_bar : (Rd (F := F) m).expect (barCell c) 0 = 1 := by
  unfold Schedule.expect Schedule.amountOf; rw [duties_bar, Finset.sum_singleton, amount_bar]
theorem expect_x : (Rd (F := F) m).expect (xCell c a h) 0 = NX := by
  unfold Schedule.expect Schedule.amountOf; rw [duties_x, Finset.sum_singleton, amount_x]
theorem payload_bar : (Rd (F := F) m).payload (barCell c) 0 () = barPay c := rfl
theorem payload_x : (Rd (F := F) m).payload (xCell c a h) 0 () = xPay m c a h := by
  show xPay m c (xA (xS a h)) (xH (xS a h)) = _; rw [xA_xS, xH_xS]
theorem rest_bar : bigSep ((Rd (F := F) m).duties (barCell c) 0 \ ∅) (fun d => (Rd (F := F) m).payload (barCell c) 0 d) = barPay c := by
  rw [Finset.sdiff_empty, duties_bar, bigSep_singleton, payload_bar]
theorem rest_x : bigSep ((Rd (F := F) m).duties (xCell c a h) 0 \ ∅) (fun d => (Rd (F := F) m).payload (xCell c a h) 0 d) = xPay m c a h := by
  rw [Finset.sdiff_empty, duties_x, bigSep_singleton, payload_x]

end Sched

/-! ## What each device owes; the levels -/

/-- What a device owes from point `t` on: the peer's landings of heads `t` and later. -/
def Orem (c : Dev nD) (t : ℕ) : CellTallies nD τ sig Unit :=
  ∑ h : Fin 16, if t ≤ h.val then (tallyAt (xCell (peer c) 3 h) () NX + tallyAt (xCell (peer c) 2 h) () NX) else 0
/-- At launch, besides, the peer's barrier one unit. -/
def O₀ (c : Dev nD) : CellTallies nD τ sig Unit := Orem c 0 + tallyAt (barCell (peer c)) () 1

theorem Orem_step (c : Dev nD) (h : Fin 16) :
    Orem c h.val = (Orem c (h.val + 1) + tallyAt (xCell (peer c) 3 h) () NX) + tallyAt (xCell (peer c) 2 h) () NX := by
  unfold Orem
  rw [← Finset.add_sum_erase _ _ (Finset.mem_univ h), ← Finset.add_sum_erase (a := h) Finset.univ (fun x : Fin 16 => if h.val + 1 ≤ x.val then _ else 0) (Finset.mem_univ h),
    if_pos le_rfl, if_neg (by omega), zero_add, add_comm, add_assoc]
  congr 1
  refine Finset.sum_congr rfl fun x hx => ?_
  have : x.val ≠ h.val := fun e => (Finset.mem_erase.mp hx).1 (Fin.ext e)
  by_cases hh : h.val + 1 ≤ x.val
  · rw [if_pos (by omega), if_pos hh]
  · rw [if_neg (by omega), if_neg hh]
theorem Orem_end (c : Dev nD) (t : ℕ) (ht : 16 ≤ t) : Orem c t = 0 := Finset.sum_eq_zero fun h _ => if_neg (by have := h.isLt; omega)

def L (g : GSem nD τ sig) : Finset Unit := if g.1.2 = .tc then {()} else ∅
/-- Barriers at 1, landings at 2, everything else at 0. -/
def lv (g : GSem nD τ sig) (_ : Unit) : ℕ := match g.2 with | .reg _ => 1 | .dma s => if 40 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem Orem_pos {c : Dev nD} {t : ℕ} {g : GSem nD τ sig} {u : Unit} (h : 0 < Orem c t g u) :
    ∃ x : Fin 16, g = xCell (peer c) 3 x ∨ g = xCell (peer c) 2 x := by
  unfold Orem at h
  rw [Finset.sum_apply, Finsupp.finset_sum_apply] at h
  obtain ⟨x, -, hx⟩ := Finset.exists_ne_zero_of_sum_ne_zero h.ne'
  refine ⟨x, ?_⟩
  by_contra hn
  rw [not_or] at hn
  apply hx
  split
  · rw [Pi.add_apply, Finsupp.add_apply, tallyAt_apply, tallyAt_apply, if_neg (fun h' => hn.1 h'.1), if_neg (fun h' => hn.2 h'.1), add_zero]
  · rfl

theorem lv_recv (c : Dev nD) (a : Fin 4) (h : Fin 16) (ha : 2 ≤ a.val) : lv (xCell c a h) () = 2 := by
  show (if 40 ≤ (xS a h).val then 2 else 0) = 2
  exact if_pos (by show 40 ≤ 8 + 16 * a.val + h.val; omega)

/-- A device waits at its loads, and at its barrier, while it owes its peer's landings. -/
theorem mayWait_rem (c : Dev nD) (t : ℕ) (sm : SemLoc sig) (hs : lv ((c : Thread nD τ), sm) () < 2) :
    (levAts L lv : sProp 𝕄) ⊢ MayWait (c : Thread nD τ) sm () (Orem c t) := by
  refine Pipeline.mayWait_of_levAts (by rw [L_tc]; exact Finset.mem_singleton_self _) fun g i hg => ?_
  obtain ⟨x, rfl | rfl⟩ := Orem_pos hg
  · exact ⟨by rw [L_tc]; exact Finset.mem_singleton_self _, by rw [lv_recv _ _ _ (by decide)]; exact hs⟩
  · exact ⟨by rw [L_tc]; exact Finset.mem_singleton_self _, by rw [lv_recv _ _ _ (by decide)]; exact hs⟩

end Cert.AttnProof

end
-- ==== Proof.Rules.lean ====
module
public import proofs.«01_k».proof.Proof.Sched
@[expose] public section
noncomputable section
namespace Cert.AttnProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
variable {F : FTy → Type} [FloatOps F]
local notation "𝕄" => MT nD τ sig Unit (Elt F) ℕ UU ℕ

variable (m : (ℓ : Loc nD τ sig) → Buf (Elt F) ℓ) (ρ : Dev nD → PrngReg)

/-! ## The cells' records -/

/-- A device's cells: its barrier, and its sixty-four semaphores of the transfers. -/
abbrev KI : Type := Option (Fin 4 × Fin 16)
abbrev csem : KI → SemLoc sig := fun | none => .reg barS | some (a, h) => .dma (xS a h)
abbrev kcell (ck : Dev nD × KI) : GSem nD τ sig := ((ck.1 : Thread nD τ), csem ck.2)

/-- Every cell's invariant, at the names `K`, and that it has reached its round 0. -/
def recs (K : Dev nD × KI → ℕ) : sProp 𝕄 :=
  bigSep Finset.univ fun ck => iprop(cellInv ER (Rd m) (K ck) (kcell ck) ∗ reached ER (kcell ck) 0)

instance recs_persistent (K : Dev nD × KI → ℕ) : BI.Persistent (recs m K) := by unfold recs; infer_instance

theorem recs_at (K : Dev nD × KI → ℕ) (ck : Dev nD × KI) :
    recs m K ⊢ iprop(cellInv ER (Rd m) (K ck) (kcell ck) ∗ reached ER (kcell ck) 0) :=
  bigSep_elim (Finset.mem_univ ck)

/-- What a device owes, its past waits whatever they are. -/
def owesE (c : Dev nD) (O : CellTallies nD τ sig Unit) : sProp 𝕄 := iprop(∃ W, owes (c : Thread nD τ) O W)

section Rules
variable (c : Dev nD) {α : Type} {Q : α → sProp (MT nD τ sig Unit (Elt F) ℕ UU ℕ)}

/-- An operation sequence at its end. -/
theorem wpk_ret {a : α} : Q a ⊢ wpk c (.ret a) Q := by
  unfold wpk; rw [wp_ret]; iintro H; imodintro; iexact H

/-- A device waits at its loads owing its peer's landings of heads `t` and later, -/
theorem mayWait_ld (t : ℕ) {s : DmaSem sig} (hs : s.val < 40) : (levAts L lv : sProp 𝕄) ⊢ MayWait (c : Thread nD τ) (.dma s) () (Orem c t) :=
  mayWait_rem (F := F) c t (.dma s) (by show (if 40 ≤ s.val then 2 else 0) < 2; rw [if_neg (by omega)]; decide)
/-- and also between the two transfers of a head. -/
theorem mayWait_mid (h : Fin 16) {s : DmaSem sig} (hs : s.val < 40) :
    (levAts L lv : sProp 𝕄) ⊢ MayWait (c : Thread nD τ) (.dma s) () (Orem c (h.val + 1) + tallyAt (xCell (peer c) 3 h) () NX) := by
  have hl : lv ((c : Thread nD τ), .dma s) () < 2 := by show (if 40 ≤ s.val then 2 else 0) < 2; rw [if_neg (by omega)]; decide
  refine Pipeline.mayWait_of_levAts (by rw [L_tc]; exact Finset.mem_singleton_self _) fun g i hg => ?_
  have : ∃ x : Fin 16, g = xCell (peer c) 3 x ∨ g = xCell (peer c) 2 x := by
    rw [Pi.add_apply, Finsupp.add_apply, tallyAt_apply] at hg
    by_cases he : g = xCell (peer c) 3 h
    · exact ⟨h, Or.inl he⟩
    · rw [if_neg (fun h' => he h'.1), add_zero] at hg; exact Orem_pos hg
  obtain ⟨x, rfl | rfl⟩ := this
  · exact ⟨by rw [L_tc]; exact Finset.mem_singleton_self _, by rw [lv_recv _ _ _ (by decide)]; exact hl⟩
  · exact ⟨by rw [L_tc]; exact Finset.mem_singleton_self _, by rw [lv_recv _ _ _ (by decide)]; exact hl⟩

/-- The wait at a load or at a store of the result. -/
theorem wp_ldwait {sp sp' : Space} {s' s : Shape} {e' e : EltTy} {sm sm' : DmaSem sig} (hsm : sm = sm') {O : CellTallies nD τ sig Unit} (hlv : (levAts L lv : sProp (MT nD τ sig Unit (Elt F) ℕ UU ℕ)) ⊢ MayWait (c : Thread nD τ) (.dma sm') () O)
    {srcw : Memref sig .tc sp' s' e'} {dstw : Memref sig .tc sp s e} {hsrc : srcw.view.WordExact} {hdst : dstw.view.WordExact}
    {k : PUnit → Prog (TpuEff nD τ sig (Elt F) Λ₀ .tc) α} {N : ℕ} (hN : dstw.view.dmaCredit = N) {D : sProp (MT nD τ sig Unit (Elt F) ℕ UU ℕ)} :
    iprop(Flight EC (c : Thread nD τ) (.dma sm') () N D ∗ owesE (F := F) c O ∗ levAts L lv)
      ⊢ iprop((iprop(D ∗ semVal ((c : Thread nD τ), .dma sm') 0 ∗ owesE (F := F) c O) -∗ wpk c (k ⟨⟩) Q)
          -∗ wpk c (.op (.waitDma2 sm srcw dstw hsrc hdst) k) Q) := by
  unfold owesE
  iintro ⟨Hf, ⟨%W, HO⟩, #Hlev⟩ Hk
  iapply (wp_wait_at c hsm hN) $$ [Hf HO]
  · isplitl [Hf]; · iexact Hf
    isplitl [HO]; · iexact HO
    iapply hlv; iexact Hlev
  iintro ⟨HD, Hv, HO⟩
  iapply Hk
  isplitl [HD]; · iexact HD
  isplitl [Hv]; · iexact Hv
  iexists _
  iexact HO

/-- The transfer of a head to the peer: a left half of what is sent is lent, the peer's landing place and both tokens go. -/
theorem wp_xsend (K : Dev nD × KI → ℕ) {Ms Md : Memref sig .tc .vmem S16x1024x128 .bf16} {off : Fin 3 → Nat}
    {inbs inbd : ∀ a, off a + S1x1024x128.size a ≤ S16x1024x128.size a} (h : Fin 16) (ho : off = ![h.val, 0, 0])
    {sS sem : DmaSem sig} (a a' : Fin 4) (hsS : sS = xS a h) (hsem : sem = xS a' h) {n : ℕ} {hn' : n < nD} (hn : n = (peer c).val)
    (hN : ((slab Md h).squeeze S1024x128 sq3).view.dmaCredit = NX)
    {qs qd : (⟨3, S1x1024x128.size⟩ : Shape).Squeezes S1024x128}
    {hsc : ((Md.slice (Rect.unit off S1x1024x128.size inbd) (fun _ => rfl)).squeeze S1024x128 qd).view.ref.isScScratch = false}
    {hsrc : ((Ms.slice (Rect.unit off S1x1024x128.size inbs) (fun _ => rfl)).squeeze S1024x128 qs).view.WordExact}
    {hdst : ((Md.slice (Rect.unit off S1x1024x128.size inbd) (fun _ => rfl)).squeeze S1024x128 qd).view.WordExact}
    {hty : DmaTarget.Typed (nD := nD) (τ := τ) (p := .tc) .vmem (.dma sem)
      (.remote (Dev.tc (⟨n, hn'⟩ : Dev nD)) ((Md.slice (Rect.unit off S1x1024x128.size inbd) (fun _ => rfl)).squeeze S1024x128 qd) (.dma sS) hsc)}
    {X Y : S1x1024x128.Idx → Elt F .bf16} {O : CellTallies nD τ sig Unit}
    (hpay₁ : ownsTc c (slab Ms h) fullShare.left X ⊢ xPay m c a h) (hpay₂ : ownsTc (peer c) (slab Md h) fullShare X ⊢ xPay m (peer c) a' h)
    {k : PUnit → Prog (TpuEff nD τ sig (Elt F) Λ₀ .tc) α} :
    iprop(recs m K ∗ ownsTc c (slab Ms h) fullShare.left X ∗ ownsTc (peer c) (slab Md h) fullShare Y
        ∗ owesE (F := F) c (O + tallyAt (xCell (peer c) a' h) () NX)
        ∗ dutyTok ER (xCell c a h) 0 () ∗ dutyTok ER (xCell (peer c) a' h) 0 ())
      ⊢ iprop((iprop(cred (tallyAt (xCell c a h) () NX) ∗ owesE (F := F) c O) -∗ wpk c (k ⟨⟩) Q)
          -∗ wpk c (.op (.enqueueDma ((Ms.slice (Rect.unit off S1x1024x128.size inbs) (fun _ => rfl)).squeeze S1024x128 qs)
              (.remote (Dev.tc (⟨n, hn'⟩ : Dev nD)) ((Md.slice (Rect.unit off S1x1024x128.size inbd) (fun _ => rfl)).squeeze S1024x128 qd) (.dma sS) hsc)
              (.dma sem) hsrc hdst hty) k) Q) := by
  subst hsS hsem ho
  subst hn
  unfold owesE
  iintro ⟨#HI, Hs, Hd, ⟨%W, HO⟩, Ht, Ht'⟩ Hk
  ihave ⟨#HIs, #Hrs⟩ := (recs_at m K (c, some (a, h))) $$ HI
  ihave ⟨#HId, #Hrd⟩ := (recs_at m K (peer c, some (a', h))) $$ HI
  ihave ⟨%f, %hf, Hs⟩ := (owns_squeeze c (slab Ms h) qs fullShare.left X) $$ Hs
  ihave ⟨%g, %hg, Hd⟩ := (owns_squeeze (peer c) (slab Md h) qd fullShare Y) $$ Hd
  have hp₁ := (owns_of_squeeze c (slab Ms h) qs fullShare.left f hf).trans (hpay₁.trans (Entails.of_eq (payload_x m c a h).symm))
  have hp₂ := (owns_of_squeeze (peer c) (slab Md h) qd fullShare _ ((read_write_squeeze (Ms := slab Ms h) (Md := slab Md h) qs qd f g rfl).trans
    (by rw [hf]; funext j; exact congrArg X (Shape.reshapeEquiv_self _ j) : _ = X))).trans (hpay₂.trans (Entails.of_eq (payload_x m (peer c) a' h).symm))
  iapply (Rounds.wp_send_pointsTo 𝒱₀ ER (Rd m) (c : Thread nD τ) none (κ₁ := K (c, some (a, h))) (κ₂ := K (peer c, some (a', h)))
    (r₁ := 0) (r₂ := 0) (d₁ := ()) (d₂ := ()) (fs := f) (fd := g) (q := fullShare.left)
    (src := (slab Ms h).squeeze S1024x128 qs) (dst := (slab Md h).squeeze S1024x128 qd) (c' := (peer c : Thread nD τ)) (sS := .dma (xS a h)) (sem := .dma (xS a' h))
    (by rw [duties_x]; exact Finset.mem_singleton_self _) (by rw [duties_x]; exact Finset.mem_singleton_self _)
    () () NX hN (amount_x m c a h) (amount_x m (peer c) a' h) O rfl (W := W) hp₁ hp₂) $$ [Hs Hd HO Ht Ht']
  · isplitr; · iexact HIs
    isplitr; · iexact HId
    isplitl [Hs]; · iexact Hs
    isplitl [Hd]; · iexact Hd
    isplitl [HO]; · iexact HO
    isplitl [Ht]; · iexact Ht
    isplitr; · iexact Hrs
    isplitl [Ht']; · iexact Ht'
    iexact Hrd
  iintro ⟨Hc, HO⟩
  iapply Hk
  isplitl [Hc]; · iexact Hc
  iexists W; iexact HO

/-- The wait for a transfer, everything a device owes paid: what the transfer hands the waiter, the semaphore back at zero. -/
theorem wp_xwait (K : Dev nD × KI → ℕ) {sp sp' : Space} {s' s : Shape} {e' e : EltTy} {sm : DmaSem sig} (a : Fin 4) (h : Fin 16) (hsm : sm = xS a h)
    {srcw : Memref sig .tc sp' s' e'} {dstw : Memref sig .tc sp s e} {hsrc : srcw.view.WordExact} {hdst : dstw.view.WordExact}
    {k : PUnit → Prog (TpuEff nD τ sig (Elt F) Λ₀ .tc) α} (hN : dstw.view.dmaCredit = NX) :
    iprop(recs m K ∗ cred (tallyAt (xCell c a h) () NX) ∗ owesE (F := F) c 0 ∗ atPos ER (xCell c a h) 0 ∅ 0)
      ⊢ iprop((iprop(xPay m c a h ∗ semVal (xCell c a h) 0 ∗ owesE (F := F) c 0) -∗ wpk c (k ⟨⟩) Q)
          -∗ wpk c (.op (.waitDma2 sm srcw dstw hsrc hdst) k) Q) := by
  subst hsm
  unfold owesE
  iintro ⟨#HI, Hc, ⟨%W, HO⟩, Hat⟩ Hk
  ihave ⟨#HIs, #Hrs⟩ := (recs_at m K (c, some (a, h))) $$ HI
  iapply (Rounds.wp_wait_rest_token 𝒱₀ ER (Rd m) (c : Thread nD τ) none (κ := K (c, some (a, h))) (sm := .dma (xS a h)) (k' := NX)
      (by intro Kt; rw [← hN]; exact wpE_waitDma2_eq 𝒱₀ (c : Thread nD τ) none Set.univ Kt) (Set.mem_univ _) () (O := 0) (W := W) (R := 0) (m := 0) (T := ∅)
      (by rw [Nat.zero_add, expect_x])) $$ [Hc HO Hat]
  · isplitr; · iexact HIs
    isplitl [Hc]; · iexact Hc
    isplitl [HO]; · iexact HO
    isplitr; · rw [MayWait_zero]; iempintro
    iexact Hat
  iintro ⟨HO, Hat, -, Hpay⟩
  ihave Hp := (Entails.of_eq (rest_x m c a h)) $$ Hpay
  imod (Rounds.cell_close ER (Rd m) (Set.mem_univ (K (c, some (a, h)))) (fun h => h) (R := 0 + 1) (duties_later m (xCell c a h))) $$ [Hat] with Hz
  · isplitr; · iexact HIs
    iexact Hat
  iapply Hk
  isplitl [Hp]; · iexact Hp
  isplitl [Hz]; · iexact Hz
  iexists _; iexact HO

end Rules

/-! ## Taking one or two of a family apart -/

theorem bigSep_upd1 {ι : Type} [Fintype ι] [DecidableEq ι] {Φ Φ' : ι → sProp 𝕄} (a : ι) (h : ∀ x, x ≠ a → Φ x = Φ' x) :
    bigSep Finset.univ Φ ⊢ iprop(Φ a ∗ (Φ' a -∗ bigSep Finset.univ Φ')) := by
  rw [bigSep_univ_split a, bigSep_univ_split (Φ := Φ') a]
  show iprop(Φ a ∗ bigSep (Finset.univ.erase a) Φ) ⊢ iprop(Φ a ∗ (Φ' a -∗ iprop(Φ' a ∗ bigSep (Finset.univ.erase a) Φ')))
  iintro ⟨H, Hr⟩
  isplitl [H]; · iexact H
  iintro H'
  isplitl [H']; · iexact H'
  rw [bigSep_congr (Φ := Φ') (Ψ := Φ) fun x hx => (h x (Finset.mem_erase.mp hx).1).symm]
  iexact Hr

end Cert.AttnProof

end
-- ==== Proof.Heads.lean ====
module
public import proofs.«01_k».proof.Proof.Rules
@[expose] public section
noncomputable section
namespace Cert.AttnProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
variable {F : FTy → Type} [FloatOps F]
local notation "𝕄" => MT nD τ sig Unit (Elt F) ℕ UU ℕ

variable (m : (ℓ : Loc nD τ sig) → Buf (Elt F) ℓ) (ρ : Dev nD → PrngReg)

variable (c : Dev nD)

/-! ## What a device holds for one head -/

/-- The place of head `h` in the staging buffers. -/
def sl (h : Fin 16) : Fin 2 := ⟨h.val % 2, Nat.mod_lt _ (by decide)⟩

/-- Head `h` of the keys, the values and the queries, unchanged; -/
def cols (h : Fin 16) : sProp 𝕄 :=
  iprop(ownsTc c (col kM h) fullShare (colOf (argK m c) h) ∗ ownsTc c (col vM h) fullShare (colOf (argV m c) h)
    ∗ ownsTc c (col qM h) fullShare (colOf (argQ m c) h))
/-- one load, under way: it will bring the head in its place and the operand's head back; -/
def ldF (a : Fin 3) (B : Memref sig .tc .vmem S2x1024x128 .f32) (M : Memref sig .tc .hbm S1x1024x16x128 .f32) (A : S1x1024x16x128.Idx → Elt F .f32) (h : Fin 16) : sProp 𝕄 :=
  Flight EC (c : Thread nD τ) (.dma (ldS (sl h) a)) () NL
    iprop(ownsTc c (slot B (sl h)) fullShare (ldd A h) ∗ ownsTc c (col M h) fullShare (colOf A h))
/-- the three loads under way; -/
def lf (h : Fin 16) : sProp 𝕄 := iprop(ldF c 0 kbM kM (argK m c) h ∗ ldF c 1 vbM vM (argV m c) h ∗ ldF c 2 qbM qM (argQ m c) h)
/-- the three loads done; -/
def ldone (h : Fin 16) : sProp 𝕄 :=
  iprop(ownsTc c (slot kbM (sl h)) fullShare (ldd (argK m c) h) ∗ ownsTc c (slot vbM (sl h)) fullShare (ldd (argV m c) h) ∗ ownsTc c (slot qbM (sl h)) fullShare (ldd (argQ m c) h))
/-- a place of the loads, free; -/
def lfree (s : Fin 2) : sProp 𝕄 :=
  iprop((some1 (F := F) c (slot kbM s) ∗ semVal ((c : Thread nD τ), .dma (ldS s 0)) 0) ∗ (some1 (F := F) c (slot vbM s) ∗ semVal ((c : Thread nD τ), .dma (ldS s 1)) 0)
    ∗ (some1 (F := F) c (slot qbM s) ∗ semVal ((c : Thread nD τ), .dma (ldS s 2)) 0))
/-- a place of the stores, free; -/
def sfree (s : Fin 2) : sProp 𝕄 := iprop(some1 (F := F) c (slot obM s) ∗ semVal ((c : Thread nD τ), .dma (stS s)) 0)
/-- the scratch of a head that stays on the device, and what is sent of it; -/
def locs (h : Fin 16) : sProp 𝕄 := iprop(some1 (F := F) c (slab qsM h) ∗ some1 (F := F) c (slab oaM h) ∗ some1 (F := F) c (lslab laM h))
def sends (h : Fin 16) : sProp 𝕄 := iprop(some1 (F := F) c (slab ksM h) ∗ some1 (F := F) c (slab vsM h))
/-- the tokens of the two transfers; -/
def toks (h : Fin 16) : sProp 𝕄 :=
  iprop((dutyTok ER (xCell c 0 h) 0 () ∗ dutyTok ER (xCell (peer c) 2 h) 0 ()) ∗ (dutyTok ER (xCell c 1 h) 0 () ∗ dutyTok ER (xCell (peer c) 3 h) 0 ()))
/-- the positions at the four cells; -/
def poss (h : Fin 16) : sProp 𝕄 :=
  iprop(atPos ER (xCell c 0 h) 0 ∅ 0 ∗ atPos ER (xCell c 2 h) 0 ∅ 0 ∗ atPos ER (xCell c 1 h) 0 ∅ 0 ∗ atPos ER (xCell c 3 h) 0 ∅ 0)
/-- the credits of the two landings, and of what was sent. -/
def rcrs (h : Fin 16) : sProp 𝕄 := iprop(cred (tallyAt (xCell c 2 h) () NX) ∗ cred (tallyAt (xCell c 3 h) () NX))
def scrs (h : Fin 16) : sProp 𝕄 := iprop(cred (tallyAt (xCell c 0 h) () NX) ∗ cred (tallyAt (xCell c 1 h) () NX))
/-- The four cells, closed. -/
def zers (h : Fin 16) : sProp 𝕄 := iprop(semVal (xCell c 0 h) 0 ∗ semVal (xCell c 2 h) 0 ∗ semVal (xCell c 1 h) 0 ∗ semVal (xCell c 3 h) 0)

/-- A head before the first phase reaches it, but for its operands and the peer's landing places. -/
def rest0 (h : Fin 16) : sProp 𝕄 := iprop(locs (F := F) c h ∗ sends (F := F) c h ∗ some1 (F := F) c (col oM h) ∗ toks (F := F) c h ∗ poss (F := F) c h ∗ rcrs (F := F) c h)
/-- With the peer's landing places: not yet being loaded; -/
def HA (h : Fin 16) : sProp 𝕄 := iprop(cols m c h ∗ landing (F := F) (peer c) h ∗ rest0 (F := F) c h)
/-- being loaded; -/
def HB (h : Fin 16) : sProp 𝕄 := iprop(lf m c h ∗ landing (F := F) (peer c) h ∗ rest0 (F := F) c h)
/-- its scratch, the first phase done; -/
def locs1 (h : Fin 16) : sProp 𝕄 :=
  iprop(ownsTc c (slab qsM h) fullShare (QS m c h) ∗ ownsTc c (slab oaM h) fullShare (OA m c h) ∗ ownsTc c (lslab laM h) fullShare (LA m c h))
def sends1 (h : Fin 16) : sProp 𝕄 := iprop(ownsTc c (slab ksM h) fullShare.right (KB m c h) ∗ ownsTc c (slab vsM h) fullShare.right (VB m c h))
/-- the first phase done, its transfers under way; -/
def HC (h : Fin 16) : sProp 𝕄 :=
  iprop(cols m c h ∗ locs1 m c h ∗ sends1 m c h ∗ some1 (F := F) c (col oM h) ∗ poss (F := F) c h ∗ scrs (F := F) c h ∗ rcrs (F := F) c h)
/-- the second phase done, but for its result; -/
def fin2 (h : Fin 16) : sProp 𝕄 := iprop(cols m c h ∗ locs (F := F) c h ∗ sends (F := F) c h ∗ landing (F := F) c h ∗ zers (F := F) c h)
/-- its result being stored; -/
def stF (h : Fin 16) : sProp 𝕄 :=
  Flight EC (c : Thread nD τ) (.dma (stS (sl h))) () NS iprop(ownsTc c (col oM h) fullShare (OC m c h) ∗ ownsTc c (slot obM (sl h)) fullShare (OB m c h))
def HD (h : Fin 16) : sProp 𝕄 := iprop(fin2 m c h ∗ stF m c h)
/-- its result stored. -/
def HE (h : Fin 16) : sProp 𝕄 := iprop(fin2 m c h ∗ ownsTc c (col oM h) fullShare (OC m c h))

/-! ## The conditions of the kernel -/

theorem cond1_iff : ∀ i : grid0.Coords, k0_cond1 i = 1#1 ↔ (i 0).val = 0 := by decide +kernel
theorem cond2_iff : ∀ i : grid0.Coords, k0_cond2 i = 1#1 ↔ (i 1).val = 0 := by decide +kernel
theorem cond3_iff : ∀ i : grid0.Coords, k0_cond3 i = 1#1 ↔ (i 1).val + 2 < 16 := by decide +kernel
theorem cond4_iff : ∀ i : grid0.Coords, k0_cond4 i = 1#1 ↔ (i 0).val = 1 := by decide +kernel
theorem cond5_iff : ∀ i : grid0.Coords, k0_cond5 i = 1#1 ↔ 2 ≤ (i 1).val := by decide +kernel
theorem cond6_iff : ∀ i : grid0.Coords, k0_cond6 i = 1#1 ↔ (i 1).val = 15 := by decide +kernel

/-! ## The loads -/

/-- The start of a load of head `h` into its place, found free. -/
theorem wp_ld {α : Type} {Q : α → sProp (MT nD τ sig Unit (Elt F) ℕ UU ℕ)} (a : Fin 3) {Bf : Memref sig .tc .vmem S2x1024x128 .f32} {M : Memref sig .tc .hbm S1x1024x16x128 .f32}
    {A : S1x1024x16x128.Idx → Elt F .f32} (h : Fin 16) {offs : Fin 4 → Nat} {inbs : ∀ a, offs a + S1x1024x1x128.size a ≤ S1x1024x16x128.size a} (hs : offs = ![0, 0, h.val, 0])
    {offd : Fin 3 → Nat} {inbd : ∀ a, offd a + S1x1024x128.size a ≤ S2x1024x128.size a} (hd : offd = ![(sl h).val, 0, 0])
    {sm : DmaSem sig} (hsm : sm = ldS (sl h) a) (hN : ((slot Bf (sl h)).squeeze S1024x128 sq3).view.dmaCredit = NL)
    {qs : (⟨4, S1x1024x1x128.size⟩ : Shape).Squeezes S1024x128} {qd : (⟨3, S1x1024x128.size⟩ : Shape).Squeezes S1024x128}
    {hsrc : ((M.slice (Rect.unit offs S1x1024x1x128.size inbs) (fun _ => rfl)).squeeze S1024x128 qs).view.WordExact}
    {hdst : ((Bf.slice (Rect.unit offd S1x1024x128.size inbd) (fun _ => rfl)).squeeze S1024x128 qd).view.WordExact}
    {hsem : DmaTarget.Typed (nD := nD) (τ := τ) (p := .tc) .hbm (.dma sm) (.here ((Bf.slice (Rect.unit offd S1x1024x128.size inbd) (fun _ => rfl)).squeeze S1024x128 qd))}
    {k : PUnit → Prog (TpuEff nD τ sig (Elt F) Λ₀ .tc) α} :
    iprop(ownsTc c (col M h) fullShare (colOf A h) ∗ some1 (F := F) c (slot Bf (sl h)) ∗ semVal ((c : Thread nD τ), .dma (ldS (sl h) a)) 0)
      ⊢ iprop((ldF c a Bf M A h -∗ wpk c (k ⟨⟩) Q)
          -∗ wpk c (.op (.enqueueDma ((M.slice (Rect.unit offs S1x1024x1x128.size inbs) (fun _ => rfl)).squeeze S1024x128 qs)
              (.here ((Bf.slice (Rect.unit offd S1x1024x128.size inbd) (fun _ => rfl)).squeeze S1024x128 qd)) (.dma sm) hsrc hdst hsem) k) Q) := by
  iintro ⟨Hc, ⟨%Y, Hb⟩, Hv⟩ Hk
  iapply (wp_copy_at c hs hd hsm numel_ld hN NL_pos (inbs' := inb_col h) (inbd' := inb_slot (sl h)) (X := colOf A h) (Y := Y)) $$ [Hc Hb Hv]
  · isplitl [Hc]; · iexact Hc
    isplitl [Hb]; · iexact Hb
    iexact Hv
  unfold ldF ldd
  iexact Hk

end Cert.AttnProof

end
-- ==== Proof.Phase1.lean ====
module
public import proofs.«01_k».proof.Proof.Heads
@[expose] public section
noncomputable section
namespace Cert.AttnProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
variable {F : FTy → Type} [FloatOps F]
local notation "𝕄" => MT nD τ sig Unit (Elt F) ℕ UU ℕ

variable (m : (ℓ : Loc nD τ sig) → Buf (Elt F) ℓ) (ρ : Dev nD → PrngReg)

variable (c : Dev nD)

/-! ## The second phase at one head -/

theorem mayWait_done (sm : SemLoc sig) : (levAts L lv : sProp 𝕄) ⊢ MayWait (c : Thread nD τ) sm () 0 := by
  rw [MayWait_zero]; iintro _; iempintro
omit [FloatOps F] in
theorem some1_intro {sp : Space} {s : Shape} {e : EltTy} (M : Memref sig .tc sp s e) (X : s.Idx → Elt F e) : (ownsTc c M fullShare X : sProp 𝕄) ⊢ some1 (F := F) c M := by
  iintro H; iexists _; iexact H
/-- The two halves of what was sent, one back from the transfer, are it whole. -/
theorem whole_KB (h : Fin 16) : iprop(xPay m c 0 h ∗ ownsTc c (slab ksM h) fullShare.right (KB m c h)) ⊢ some1 (F := F) c (slab ksM h) :=
  (show iprop(ownsTc c (slab ksM h) fullShare.left (KB m c h) ∗ ownsTc c (slab ksM h) fullShare.right (KB m c h)) ⊢ _ from (owns_halves _ _ _ _).2).trans (some1_intro c _ _)
theorem whole_VB (h : Fin 16) : iprop(xPay m c 1 h ∗ ownsTc c (slab vsM h) fullShare.right (VB m c h)) ⊢ some1 (F := F) c (slab vsM h) :=
  (show iprop(ownsTc c (slab vsM h) fullShare.left (VB m c h) ∗ ownsTc c (slab vsM h) fullShare.right (VB m c h)) ⊢ _ from (owns_halves _ _ _ _).2).trans (some1_intro c _ _)

variable {Q : PUnit → sProp (MT nD τ sig Unit (Elt F) ℕ UU ℕ)}

/-- A head of the result, written. -/
abbrev outd (h : Fin 16) : sProp 𝕄 := ownsTc c (col oM h) fullShare (OC m c h)

set_option maxHeartbeats 400000 in
/-- The second phase at head `h`: what was sent is back and what the peer sent is here, the result of the head is computed
    and its store started. A head that finds its place in use waits for the store of two heads before, and the last
    head waits for the last two stores. -/
theorem sound_56 (K : Dev nD × KI → ℕ) (i : grid0.Coords) (h : Fin 16) (hi : (i 1).val = h.val) (h1 : ¬ k0_cond1 i = 1#1) (h4 : k0_cond4 i = 1#1) {P R : sProp 𝕄}
    (hP : (h.val < 2 ∧ P = sfree (F := F) c (sl h) ∧ R = stF m c h)
      ∨ (∃ h2 : Fin 16, h2.val + 2 = h.val ∧ h.val < 15 ∧ P = stF m c h2 ∧ R = iprop(outd m c h2 ∗ stF m c h))
      ∨ (h = 15 ∧ P = iprop(stF m c 13 ∗ stF m c 14) ∧ R = iprop(outd m c 13 ∗ outd m c 14 ∗ outd m c 15 ∗ sfree (F := F) c 1 ∗ sfree (F := F) c 0))) :
    iprop(recs m K ∗ levAts L lv ∗ owesE (F := F) c 0 ∗ P ∗ HC m c h)
      ⊢ iprop((iprop(fin2 m c h ∗ owesE (F := F) c 0 ∗ R) -∗ Q ⟨⟩)
        -∗ wpk c (cc0__body (F := F) i qM (Memref.isWhole_whole _) kM (Memref.isWhole_whole _) vM (Memref.isWhole_whole _) oM (Memref.isWhole_whole _) qsM (Memref.isWhole_whole _) qbM (Memref.isWhole_whole _)
          kbM (Memref.isWhole_whole _) vbM (Memref.isWhole_whole _) ksM (Memref.isWhole_whole _) vsM (Memref.isWhole_whole _) krM (Memref.isWhole_whole _) vrM (Memref.isWhole_whole _) oaM (Memref.isWhole_whole _)
          laM (Memref.isWhole_whole _) obM (Memref.isWhole_whole _) cc0_scratch11 cc0_scratch12 cc0_scratch13 cc0_scratch14 cc0_scratch15 cc0_scratch16) Q) := by
  have o16 : k0_off16 i = ![h.val] := (k0_off16_eq i).trans (by rw [hi])
  have o18 : k0_off18 i = ![h.val, 0, 0] := (k0_off18_eq i).trans (by rw [hi])
  have o22 : k0_off22 i = ![h.val, 0, 0] := (k0_off22_eq i).trans (by rw [hi])
  have o23 : k0_off23 i = ![(sl h).val, 0, 0] := (k0_off23_eq i).trans (by rw [hi]; rfl)
  have o26 : k0_off26 i = ![(sl h).val, 0, 0] := (k0_off26_eq i).trans (by rw [hi]; rfl)
  have o24 : k0_off24 i = ![(sl h).val] := (k0_off24_eq i).trans (by rw [hi]; rfl)
  have o19 : k0_off19 i = ![(sl h).val] := (k0_off19_eq i).trans (by rw [hi]; rfl)
  have o30 : k0_off30 i = ![(sl h).val] := (k0_off30_eq i).trans (by rw [hi]; rfl)
  have o25 : k0_off25 i = ![0, 0, h.val, 0] := (k0_off25_eq i).trans (by rw [hi])
  simp only [cc0__body_eq_skeleton]; unfold cc0__body_skel
  simp only [k0_part5_eq_skeleton, k0_part6_eq_skeleton]; unfold k0_part5_skel k0_part6_skel
  unfold HC locs1 sends1 poss scrs rcrs
  rcases hP with ⟨hlt, rfl, rfl⟩ | ⟨h2, hh, hlt, rfl, rfl⟩ | ⟨h15, rfl, rfl⟩
  case' inl =>
    have h5 : ¬ k0_cond5 i = 1#1 := fun h => absurd ((cond5_iff i).mp h) (by omega)
    have h6 : ¬ k0_cond6 i = 1#1 := fun h => absurd ((cond6_iff i).mp h) (by omega)
  case' inr.inl =>
    have h5 : k0_cond5 i = 1#1 := (cond5_iff i).mpr (by omega)
    have h6 : ¬ k0_cond6 i = 1#1 := fun h => absurd ((cond6_iff i).mp h) (by omega)
    have hs : sl h2 = sl h := Fin.ext (by show h2.val % 2 = h.val % 2; omega)
  case' inr.inr =>
    have hv : h.val = 15 := by rw [h15]; rfl
    have h5 : k0_cond5 i = 1#1 := (cond5_iff i).mpr (by omega)
    have h6 : k0_cond6 i = 1#1 := (cond6_iff i).mpr (by omega)
    have hs : sl 13 = sl h := Fin.ext (by show 13 % 2 = h.val % 2; omega)
    have o27 : k0_off27 i = ![(sl 14).val] := (k0_off27_eq i).trans (by rw [hi, hv]; rfl)
  all_goals simp only [h1, h4, h5, h6, dite_true, dite_false, Prog.lift, Prog.bind_op, Prog.bind_ret, Prog.pure_eq_ret, wp_deviceId]
  case' inr.inr =>
    iintro ⟨#HI, #Hlev, HO, ⟨HP, HP'⟩, Hcols, ⟨Hqs, Hoa, Hla⟩, ⟨HksR, HvsR⟩, Ho, ⟨Hp0, Hp2, Hp1, Hp3⟩, ⟨Hs0, Hs1⟩, ⟨Hr2, Hr3⟩⟩ Hk
  case' inr.inl =>
    iintro ⟨#HI, #Hlev, HO, HP, Hcols, ⟨Hqs, Hoa, Hla⟩, ⟨HksR, HvsR⟩, Ho, ⟨Hp0, Hp2, Hp1, Hp3⟩, ⟨Hs0, Hs1⟩, ⟨Hr2, Hr3⟩⟩ Hk
  case' inl =>
    iintro ⟨#HI, #Hlev, HO, HP, Hcols, ⟨Hqs, Hoa, Hla⟩, ⟨HksR, HvsR⟩, Ho, ⟨Hp0, Hp2, Hp1, Hp3⟩, ⟨Hs0, Hs1⟩, ⟨Hr2, Hr3⟩⟩ Hk
  all_goals iapply (wp_xwait m c K 0 h (xS0_eq h o16) (by rfl)) $$ [Hs0 HO Hp0]
  · isplitr; · iexact HI
    isplitl [Hs0]; · iexact Hs0
    isplitl [HO]; · iexact HO
    iexact Hp0
  rotate_left
  · isplitr; · iexact HI
    isplitl [Hs0]; · iexact Hs0
    isplitl [HO]; · iexact HO
    iexact Hp0
  rotate_left
  · isplitr; · iexact HI
    isplitl [Hs0]; · iexact Hs0
    isplitl [HO]; · iexact HO
    iexact Hp0
  rotate_left
  all_goals iintro ⟨HksL, Hz0, HO⟩
  all_goals iapply (wp_xwait m c K 2 h (xS2_eq h o16) (by rfl)) $$ [Hr2 HO Hp2]
  · isplitr; · iexact HI
    isplitl [Hr2]; · iexact Hr2
    isplitl [HO]; · iexact HO
    iexact Hp2
  rotate_left
  · isplitr; · iexact HI
    isplitl [Hr2]; · iexact Hr2
    isplitl [HO]; · iexact HO
    iexact Hp2
  rotate_left
  · isplitr; · iexact HI
    isplitl [Hr2]; · iexact Hr2
    isplitl [HO]; · iexact HO
    iexact Hp2
  rotate_left
  all_goals iintro ⟨Hkr, Hz2, HO⟩
  all_goals iapply (wp_xwait m c K 1 h (xS1_eq h o16) (by rfl)) $$ [Hs1 HO Hp1]
  · isplitr; · iexact HI
    isplitl [Hs1]; · iexact Hs1
    isplitl [HO]; · iexact HO
    iexact Hp1
  rotate_left
  · isplitr; · iexact HI
    isplitl [Hs1]; · iexact Hs1
    isplitl [HO]; · iexact HO
    iexact Hp1
  rotate_left
  · isplitr; · iexact HI
    isplitl [Hs1]; · iexact Hs1
    isplitl [HO]; · iexact HO
    iexact Hp1
  rotate_left
  all_goals iintro ⟨HvsL, Hz1, HO⟩
  all_goals iapply (wp_xwait m c K 3 h (xS3_eq h o16) (by rfl)) $$ [Hr3 HO Hp3]
  · isplitr; · iexact HI
    isplitl [Hr3]; · iexact Hr3
    isplitl [HO]; · iexact HO
    iexact Hp3
  rotate_left
  · isplitr; · iexact HI
    isplitl [Hr3]; · iexact Hr3
    isplitl [HO]; · iexact HO
    iexact Hp3
  rotate_left
  · isplitr; · iexact HI
    isplitl [Hr3]; · iexact Hr3
    isplitl [HO]; · iexact HO
    iexact Hp3
  rotate_left
  all_goals iintro ⟨Hvr, Hz3, HO⟩
  all_goals ihave Hkr := (Entails.of_eq (show xPay m c 2 h = ownsTc c (slab krM h) fullShare (KB m (peer c) h) from rfl)) $$ Hkr
  all_goals ihave Hvr := (Entails.of_eq (show xPay m c 3 h = ownsTc c (slab vrM h) fullShare (VB m (peer c) h) from rfl)) $$ Hvr
  all_goals iapply (wp_load_at c o18 (inb' := inb_slab h)) $$ Hqs
  all_goals iintro Hqs
  all_goals iapply (wp_load_at c o18 (inb' := inb_slab h)) $$ Hkr
  all_goals iintro Hkr
  all_goals iapply (wp_load_at c o18 (inb' := inb_slab h)) $$ Hvr
  all_goals iintro Hvr
  unfold sfree
  icases HP with ⟨Hob, Hv⟩
  rotate_left
  ihave HP := (Entails.of_eq (show stF m c  h2 = Flight EC (c : Thread nD τ) (.dma (stS (sl h))) () NS iprop(outd m c  h2 ∗ ownsTc c (slot obM (sl h)) fullShare (OB m c h2)) from by unfold stF; rw [hs])) $$ HP
  iapply (wp_ldwait c (stS_eq (sl h) o19) (mayWait_done (F := F) c _) rfl) $$ [HP HO]
  · isplitl [HP]; · iexact HP
    isplitl [HO]; · iexact HO
    iexact Hlev
  iintro ⟨⟨Hod, Hob⟩, Hv, HO⟩
  ihave Hob := (some1_intro (F := F) c (slot obM (sl h)) _) $$ Hob
  rotate_left
  ihave HP := (Entails.of_eq (show stF m c  13 = Flight EC (c : Thread nD τ) (.dma (stS (sl h))) () NS iprop(outd m c  13 ∗ ownsTc c (slot obM (sl h)) fullShare (OB m c 13)) from by unfold stF; rw [hs])) $$ HP
  iapply (wp_ldwait c (stS_eq (sl h) o19) (mayWait_done (F := F) c _) rfl) $$ [HP HO]
  · isplitl [HP]; · iexact HP
    isplitl [HO]; · iexact HO
    iexact Hlev
  iintro ⟨⟨Hod, Hob⟩, Hv, HO⟩
  ihave Hob := (some1_intro (F := F) c (slot obM (sl h)) _) $$ Hob
  rotate_left
  all_goals icases Hob with ⟨%Xob, Hob⟩
  all_goals iapply (wp_load_at c o18 (inb' := inb_slab h)) $$ Hoa
  all_goals iintro Hoa
  all_goals iapply (wp_load_at c o22 (inb' := inb_lslab h)) $$ Hla
  all_goals iintro Hla
  all_goals iapply (wp_load_at c o23 (inb' := inb_slot (sl h))) $$ Hob
  all_goals iintro Hob
  all_goals iapply (wp_store_at c o23 (inb' := inb_slot (sl h))) $$ Hob
  all_goals iintro Hob
  all_goals icases Ho with ⟨%Xo, Ho⟩
  all_goals iapply (wp_copy_at c o26 o25 (stS_eq (sl h) o24) numel_st (NS_o h) NS_pos (inbs' := inb_slot (sl h)) (inbd' := inb_col h) (X := OB m c h) (Y := Xo)) $$ [Hob Ho Hv]
  · isplitl [Hob]; · iexact Hob
    isplitl [Ho]; · iexact Ho
    iexact Hv
  rotate_left
  · isplitl [Hob]; · iexact Hob
    isplitl [Ho]; · iexact Ho
    iexact Hv
  rotate_left
  · isplitl [Hob]; · iexact Hob
    isplitl [Ho]; · iexact Ho
    iexact Hv
  rotate_left
  all_goals iintro Hst
  rotate_right
  unfold stF
  iapply (wp_ldwait c (stS_eq (sl 14) o27) (mayWait_done (F := F) c _) rfl) $$ [HP' HO]
  · isplitl [HP']; · iexact HP'
    isplitl [HO]; · iexact HO
    iexact Hlev
  iintro ⟨⟨Hod4, Hob4⟩, Hv4, HO⟩
  iapply (wp_ldwait c (stS_eq (sl h) o30) (mayWait_done (F := F) c _) rfl) $$ [Hst HO]
  · isplitl [Hst]; · iexact Hst
    isplitl [HO]; · iexact HO
    iexact Hlev
  iintro ⟨⟨Hod5, Hob5⟩, Hv5, HO⟩
  rotate_left
  all_goals iapply (wpk_ret c)
  all_goals ihave Hks := (whole_KB m c h) $$ [HksL HksR]
  · isplitl [HksL]; · iexact HksL
    iexact HksR
  rotate_left
  · isplitl [HksL]; · iexact HksL
    iexact HksR
  rotate_left
  · isplitl [HksL]; · iexact HksL
    iexact HksR
  rotate_left
  all_goals ihave Hvs := (whole_VB m c h) $$ [HvsL HvsR]
  · isplitl [HvsL]; · iexact HvsL
    iexact HvsR
  rotate_left
  · isplitl [HvsL]; · iexact HvsL
    iexact HvsR
  rotate_left
  · isplitl [HvsL]; · iexact HvsL
    iexact HvsR
  rotate_left
  all_goals iapply Hk
  all_goals unfold fin2 locs sends landing zers
  all_goals isplitl [Hcols Hqs Hoa Hla Hks Hvs Hkr Hvr Hz0 Hz1 Hz2 Hz3]
  · isplitl [Hcols]; · iexact Hcols
    isplitl [Hqs Hoa Hla]
    · isplitl [Hqs]; · iexists _; iexact Hqs
      isplitl [Hoa]; · iexists _; iexact Hoa
      iexists _; iexact Hla
    isplitl [Hks Hvs]
    · isplitl [Hks]; · iexact Hks
      iexact Hvs
    isplitl [Hkr Hvr]
    · isplitl [Hkr]; · iexists _; iexact Hkr
      iexists _; iexact Hvr
    isplitl [Hz0]; · iexact Hz0
    isplitl [Hz2]; · iexact Hz2
    isplitl [Hz1]; · iexact Hz1
    iexact Hz3
  · isplitl [HO]; · iexact HO
    unfold stF; iexact Hst
  · isplitl [Hcols]; · iexact Hcols
    isplitl [Hqs Hoa Hla]
    · isplitl [Hqs]; · iexists _; iexact Hqs
      isplitl [Hoa]; · iexists _; iexact Hoa
      iexists _; iexact Hla
    isplitl [Hks Hvs]
    · isplitl [Hks]; · iexact Hks
      iexact Hvs
    isplitl [Hkr Hvr]
    · isplitl [Hkr]; · iexists _; iexact Hkr
      iexists _; iexact Hvr
    isplitl [Hz0]; · iexact Hz0
    isplitl [Hz2]; · iexact Hz2
    isplitl [Hz1]; · iexact Hz1
    iexact Hz3
  · isplitl [HO]; · iexact HO
    isplitl [Hod]; · iexact Hod
    unfold stF; iexact Hst
  · isplitl [Hcols]; · iexact Hcols
    isplitl [Hqs Hoa Hla]
    · isplitl [Hqs]; · iexists _; iexact Hqs
      isplitl [Hoa]; · iexists _; iexact Hoa
      iexists _; iexact Hla
    isplitl [Hks Hvs]
    · isplitl [Hks]; · iexact Hks
      iexact Hvs
    isplitl [Hkr Hvr]
    · isplitl [Hkr]; · iexists _; iexact Hkr
      iexists _; iexact Hvr
    isplitl [Hz0]; · iexact Hz0
    isplitl [Hz2]; · iexact Hz2
    isplitl [Hz1]; · iexact Hz1
    iexact Hz3
  · subst h15
    isplitl [HO]; · iexact HO
    isplitl [Hod]; · iexact Hod
    isplitl [Hod4]; · iexact Hod4
    isplitl [Hod5]; · iexact Hod5
    unfold sfree
    isplitl [Hob5 Hv5]
    · isplitl [Hob5]; · iexists _; iexact Hob5
      iexact Hv5
    · isplitl [Hob4]; · iexists _; iexact Hob4
      iexact Hv4

end Cert.AttnProof

end
-- ==== Proof.Phase0.lean ====
module
public import proofs.«01_k».proof.Proof.Heads
@[expose] public section
noncomputable section
namespace Cert.AttnProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
variable {F : FTy → Type} [FloatOps F]
local notation "𝕄" => MT nD τ sig Unit (Elt F) ℕ UU ℕ

variable (m : (ℓ : Loc nD τ sig) → Buf (Elt F) ℓ) (ρ : Dev nD → PrngReg)

variable (c : Dev nD)

/-! ## The first phase at one head -/

/-- What the very first point starts from besides the heads: two heads' operands, every loading place free, the device's own
    landing places, and its dues at the barriers; -/
def pro0 : sProp 𝕄 :=
  iprop((cols m c 0 ∗ lfree (F := F) c 0) ∗ (cols m c 1 ∗ lfree (F := F) c 1) ∗ (bigSep Finset.univ fun h : Fin 16 => landing (F := F) c h)
    ∗ dutyTok ER (barCell (peer c)) 0 () ∗ atPos ER (barCell c) 0 ∅ 0 ∗ cred (tallyAt (barCell c) () 1) ∗ owesE (F := F) c (O₀ c))
/-- what of it is left over at its end: the second head being loaded, the barrier closed, the peer's other landing places. -/
def pro1 : sProp 𝕄 :=
  iprop(lf m c 1 ∗ semVal (barCell c) 0 ∗ (bigSep (Finset.univ.erase (0 : Fin 16)) fun h => landing (F := F) (peer c) h))
/-- What any later point starts from. -/
def main0 (h : Fin 16) : sProp 𝕄 := iprop(lf m c h ∗ landing (F := F) (peer c) h ∗ owesE (F := F) c (Orem c h.val))

omit [FloatOps F] in
theorem ldS_lt (s : Fin 2) (a : Fin 3) : (ldS s a).val < 40 := by revert s a; decide
theorem owesE_intro (O : CellTallies nD τ sig Unit) (W : Waits sig Unit) : (owes (c : Thread nD τ) O W : sProp 𝕄) ⊢ owesE (F := F) c O := by
  unfold owesE; iintro H; iexists _; iexact H
/-- What the sender leaves in the peer's landing places is what the peer's schedule says. -/
theorem pay2 (h : Fin 16) : ownsTc (peer c) (slab krM h) fullShare (KB m c h) ⊢ xPay m (peer c) 2 h := by unfold xPay; rw [peer_peer]
theorem pay3 (h : Fin 16) : ownsTc (peer c) (slab vrM h) fullShare (VB m c h) ⊢ xPay m (peer c) 3 h := by unfold xPay; rw [peer_peer]

/-- What is stored of the keys and of the values, cut in halves: one to be lent to the transfer, one kept. -/
theorem half_KB (h : Fin 16) : (ownsTc c (slab ksM h) fullShare (k0_pay1 (ldd (argK m c) h)) : sProp 𝕄)
    ⊢ iprop(ownsTc c (slab ksM h) fullShare.left (KB m c h) ∗ ownsTc c (slab ksM h) fullShare.right (KB m c h)) := (owns_halves _ _ _ _).1
theorem half_VB (h : Fin 16) : (ownsTc c (slab vsM h) fullShare (k0_pay2 (ldd (argV m c) h)) : sProp 𝕄)
    ⊢ iprop(ownsTc c (slab vsM h) fullShare.left (VB m c h) ∗ ownsTc c (slab vsM h) fullShare.right (VB m c h)) := (owns_halves _ _ _ _).1
theorem owesE_step (h : Fin 16) : owesE (F := F) c (Orem c h.val)
    ⊢ owesE (F := F) c ((Orem c (h.val + 1) + tallyAt (xCell (peer c) 3 h) () NX) + tallyAt (xCell (peer c) 2 h) () NX) := by rw [Orem_step]

variable {Q : PUnit → sProp (MT nD τ sig Unit (Elt F) ℕ UU ℕ)}

set_option maxHeartbeats 1600000 in
/-- The first phase at head `h`: its loads waited for, its keys and values sent to the peer, and the attention to the
    device's own keys left in the scratch; the first point starts the loads and meets the peer at the barrier before. -/
theorem sound_4 (K : Dev nD × KI → ℕ) (i : grid0.Coords) (h : Fin 16) (hi : (i 1).val = h.val) (h1 : k0_cond1 i = 1#1) (a1 v0 v6 v9 v10 : BitVec 32) {P R : sProp 𝕄}
    (hP : (h = 0 ∧ P = pro0 m c ∧ R = pro1 m c) ∨ (h ≠ 0 ∧ P = main0 m c h ∧ R = iprop(emp))) :
    iprop(recs m K ∗ levAts L lv ∗ P ∗ rest0 (F := F) c h)
      ⊢ iprop((iprop(HC m c h ∗ lfree (F := F) c (sl h) ∗ owesE (F := F) c (Orem c (h.val + 1)) ∗ R) -∗ Q ⟨⟩)
        -∗ wpk c (k0_part4 (F := F) i qM (Memref.isWhole_whole _) kM (Memref.isWhole_whole _) vM (Memref.isWhole_whole _) oM (Memref.isWhole_whole _) qsM (Memref.isWhole_whole _) qbM (Memref.isWhole_whole _)
          kbM (Memref.isWhole_whole _) vbM (Memref.isWhole_whole _) ksM (Memref.isWhole_whole _) vsM (Memref.isWhole_whole _) krM (Memref.isWhole_whole _) vrM (Memref.isWhole_whole _) oaM (Memref.isWhole_whole _)
          laM (Memref.isWhole_whole _) obM (Memref.isWhole_whole _) cc0_scratch11 cc0_scratch12 cc0_scratch13 cc0_scratch14 cc0_scratch15 cc0_scratch16 a1 v0 c v6 v9 v10 h1) Q) := by
  have o1 : k0_off1 i = ![(sl h).val, (0 : Fin 3).val] := (k0_off1_eq i).trans (by rw [hi]; rfl)
  have o8 : k0_off8 i = ![(sl h).val, (1 : Fin 3).val] := (k0_off8_eq i).trans (by rw [hi]; rfl)
  have o9 : k0_off9 i = ![(sl h).val, (2 : Fin 3).val] := (k0_off9_eq i).trans (by rw [hi]; rfl)
  have o4 : k0_off4 i = ![(sl h).val, 0, 0] := (k0_off4_eq i).trans (by rw [hi]; rfl)
  have o5 : k0_off5 i = ![h.val, 0, 0] := (k0_off5_eq i).trans (by rw [hi])
  have o7 : k0_off7 i = ![h.val, 0, 0] := (k0_off7_eq i).trans (by rw [hi])
  have o10 : k0_off10 i = ![h.val, 0, 0] := (k0_off10_eq i).trans (by rw [hi])
  have o6 : k0_off6 i = ![h.val] := (k0_off6_eq i).trans (by rw [hi])
  simp only [k0_part4_eq_skeleton]; unfold k0_part4_skel
  simp only [k0_part2_eq_skeleton, k0_part3_eq_skeleton]; unfold k0_part2_skel k0_part3_skel
  unfold rest0 locs sends toks poss rcrs
  rcases hP with ⟨h0, rfl, rfl⟩ | ⟨h0, rfl, rfl⟩
  case' inl =>
    have h2 : k0_cond2 i = 1#1 := (cond2_iff i).mpr (by rw [hi, h0]; rfl)
    simp only [h2, k0_part1_eq_skeleton]; unfold k0_part1_skel
    simp only [dite_true, semSignalWord, semWaitWord, Prog.lift, Prog.bind_op, Prog.bind_ret, Prog.pure_eq_ret, dev1_eq c]
    unfold pro0 cols lfree
    iintro ⟨#HI, #Hlev, ⟨⟨⟨HcK, HcV, HcQ⟩, ⟨HbK, HvK⟩, ⟨HbV, HvV⟩, ⟨HbQ, HvQ⟩⟩, ⟨⟨HcK1, HcV1, HcQ1⟩, ⟨HbK1, HvK1⟩, ⟨HbV1, HvV1⟩, ⟨HbQ1, HvQ1⟩⟩, Hland, HtB, HatB, HcB, HO⟩,
      ⟨⟨%Xqs, Hqs⟩, ⟨%Xoa, Hoa⟩, ⟨%Xla, Hla⟩⟩, ⟨⟨%Xks, Hks⟩, ⟨%Xvs, Hvs⟩⟩, Ho, ⟨⟨Ht0, Ht2⟩, Ht1, Ht3⟩, Hpos, ⟨Hr2, Hr3⟩⟩ Hk
    iapply (wp_ld c 0 0 rfl rfl (ldS_eq 0 0 rfl) (NL_kb _)) $$ [HcK HbK HvK]
    · isplitl [HcK]; · iexact HcK
      isplitl [HbK]; · iexact HbK
      iexact HvK
    iintro HfK
    iapply (wp_ld c 0 1 rfl rfl (ldS_eq 1 0 rfl) (NL_kb _)) $$ [HcK1 HbK1 HvK1]
    · isplitl [HcK1]; · iexact HcK1
      isplitl [HbK1]; · iexact HbK1
      iexact HvK1
    iintro HfK1
    iapply (wp_ld c 1 0 rfl rfl (ldS_eq 0 1 rfl) (NL_vb _)) $$ [HcV HbV HvV]
    · isplitl [HcV]; · iexact HcV
      isplitl [HbV]; · iexact HbV
      iexact HvV
    iintro HfV
    iapply (wp_ld c 1 1 rfl rfl (ldS_eq 1 1 rfl) (NL_vb _)) $$ [HcV1 HbV1 HvV1]
    · isplitl [HcV1]; · iexact HcV1
      isplitl [HbV1]; · iexact HbV1
      iexact HvV1
    iintro HfV1
    iapply (wp_ld c 2 0 rfl rfl (ldS_eq 0 2 rfl) (NL_qb _)) $$ [HcQ HbQ HvQ]
    · isplitl [HcQ]; · iexact HcQ
      isplitl [HbQ]; · iexact HbQ
      iexact HvQ
    iintro HfQ
    iapply (wp_ld c 2 1 rfl rfl (ldS_eq 1 2 rfl) (NL_qb _)) $$ [HcQ1 HbQ1 HvQ1]
    · isplitl [HcQ1]; · iexact HcQ1
      isplitl [HbQ1]; · iexact HbQ1
      iexact HvQ1
    iintro HfQ1
    ihave ⟨#HIb, #Hrb⟩ := (recs_at m K (c, none)) $$ HI
    ihave ⟨#HIp, #Hrp⟩ := (recs_at m K (peer c, none)) $$ HI
    icases (show owesE (F := F) c (O₀ c) ⊢ iprop(∃ W, owes (c : Thread nD τ) (Orem c 0 + tallyAt (barCell (peer c)) () 1) W) from BI.Entails.refl _) $$ HO with ⟨%W, HO⟩
    iapply (Rounds.wp_signal 𝒱₀ ER (Rd m) (c : Thread nD τ) none (dst := (peer c : Thread nD τ)) (κ := K (peer c, none))
      (d := ()) (by rw [duties_bar]; exact Finset.mem_singleton_self _) ((amount_bar m (peer c)).trans (by decide)) () (Orem c 0) rfl) $$ [HO HtB Hland]
    · isplitr; · iexact HIp
      isplitl [HO]; · iexact HO
      isplitl [HtB]; · iexact HtB
      isplitl [Hland]
      · rw [payload_bar]; unfold barPay; rw [peer_peer]; iexact Hland
      iexact Hrp
    iintro HO
    iapply (Rounds.wp_wait_rest_token 𝒱₀ ER (Rd m) (c : Thread nD τ) none (κ := K (c, none))
      (wpE_semWait_eq 𝒱₀ (c : Thread nD τ) none Set.univ) (Set.mem_univ _) () (O := Orem c 0) (W := W) (R := 0) (m := 0) (T := ∅)
      (by rw [expect_bar]; decide)) $$ [HcB HO HatB]
    · isplitr; · iexact HIb
      isplitl [HcB]; · iexact HcB
      isplitl [HO]; · iexact HO
      isplitr; · iapply (mayWait_rem (F := F) c 0 (.reg barS) (by show (1 : ℕ) < 2; decide)); iexact Hlev
      iexact HatB
    iintro ⟨HO, HatB, -, Hpay⟩
    ihave Hp := (Entails.of_eq (rest_bar m c)) $$ Hpay
    imod (Rounds.cell_close ER (Rd m) (Set.mem_univ (K (c, none))) (fun h => h) (R := 0 + 1) (duties_later m (barCell c))) $$ [HatB] with HzB
    · isplitr; · iexact HIb
      iexact HatB
    ihave Hp := (Entails.of_eq (show barPay (F := F) c = iprop(landing (F := F) (peer c) 0 ∗ bigSep (Finset.univ.erase (0 : Fin 16)) fun h => landing (F := F) (peer c) h) from bigSep_univ_split 0)) $$ Hp
    icases Hp with ⟨Hpl, Hpr⟩
    ihave HO := (owesE_intro (F := F) c (Orem c 0) _) $$ HO
    ihave HO := (Entails.of_eq (show owesE (F := F) c (Orem c 0) = owesE (F := F) c (Orem c h.val) from by rw [h0]; rfl)) $$ HO
    ihave Hpl := (Entails.of_eq (show landing (F := F) (peer c) 0 = landing (F := F) (peer c) h from by rw [h0])) $$ Hpl
    ihave HfK := (Entails.of_eq (show ldF c 0 kbM kM (argK m c) 0 = ldF c 0 kbM kM (argK m c) h from by rw [h0])) $$ HfK
    ihave HfV := (Entails.of_eq (show ldF c 1 vbM vM (argV m c) 0 = ldF c 1 vbM vM (argV m c) h from by rw [h0])) $$ HfV
    ihave HfQ := (Entails.of_eq (show ldF c 2 qbM qM (argQ m c) 0 = ldF c 2 qbM qM (argQ m c) h from by rw [h0])) $$ HfQ
    ihave HR := (show iprop((ldF c 0 kbM kM (argK m c) 1 ∗ ldF c 1 vbM vM (argV m c) 1 ∗ ldF c 2 qbM qM (argQ m c) 1) ∗ semVal (barCell c) 0
      ∗ bigSep (Finset.univ.erase (0 : Fin 16)) fun h => landing (F := F) (peer c) h) ⊢ pro1 m c from by unfold pro1 lf; exact BI.Entails.refl _) $$ [HfK1 HfV1 HfQ1 HzB Hpr]
    · isplitl [HfK1 HfV1 HfQ1]
      · isplitl [HfK1]; · iexact HfK1
        isplitl [HfV1] <;> iassumption
      isplitl [HzB] <;> iassumption
  case' inr =>
    have h2 : ¬ k0_cond2 i = 1#1 := fun h => h0 (Fin.ext (hi.symm.trans ((cond2_iff i).mp h)))
    simp only [h2, dite_false, Prog.lift, Prog.bind_op, Prog.bind_ret, Prog.pure_eq_ret]
    unfold main0 lf
    iintro ⟨#HI, #Hlev, ⟨⟨HfK, HfV, HfQ⟩, Hpl, HO⟩, ⟨⟨%Xqs, Hqs⟩, ⟨%Xoa, Hoa⟩, ⟨%Xla, Hla⟩⟩, ⟨⟨%Xks, Hks⟩, ⟨%Xvs, Hvs⟩⟩, Ho, ⟨⟨Ht0, Ht2⟩, Ht1, Ht3⟩, Hpos, ⟨Hr2, Hr3⟩⟩ Hk
    ihave HR := (show (iprop(emp) : sProp 𝕄) ⊢ iprop(emp) from BI.Entails.refl _) $$ []
    · iempintro
  -- the keys: waited for, converted, sent
  all_goals unfold landing ldF
  all_goals icases Hpl with ⟨⟨%Xkr, Hkr⟩, ⟨%Xvr, Hvr⟩⟩
  all_goals iapply (wp_ldwait c (ldS_eq (sl h) 0 o1) (mayWait_ld (F := F) c _ (ldS_lt _ _)) rfl) $$ [HfK HO]
  · isplitl [HfK]; · iexact HfK
    isplitl [HO]; · iexact HO
    iexact Hlev
  rotate_left
  · isplitl [HfK]; · iexact HfK
    isplitl [HO]; · iexact HO
    iexact Hlev
  all_goals iintro ⟨⟨HbK, HcK⟩, HvK, HO⟩
  all_goals iapply (wp_load_at c o4 (inb' := inb_slot (sl h))) $$ HbK
  all_goals iintro HbK
  all_goals iapply (wp_load_at c o5 (inb' := inb_slab h)) $$ Hks
  all_goals iintro Hks
  all_goals iapply (wp_store_at c o5 (inb' := inb_slab h)) $$ Hks
  all_goals iintro Hks
  all_goals ihave Hks := (half_KB m c h) $$ Hks
  all_goals icases Hks with ⟨HksL, HksR⟩
  all_goals ihave HO := (owesE_step (F := F) c h) $$ HO
  all_goals iapply (wp_xsend m c K h o7 0 2 (xS0_eq h o6) (xS2_eq h o6) (dev2_eq c) (NX_kr h) (X := KB m c h) (BI.Entails.refl _) (pay2 m c h)) $$ [HksL Hkr HO Ht0 Ht2]
  · isplitr; · iexact HI
    isplitl [HksL]; · iexact HksL
    isplitl [Hkr]; · iexact Hkr
    isplitl [HO]; · iexact HO
    isplitl [Ht0]; · iexact Ht0
    iexact Ht2
  rotate_left
  · isplitr; · iexact HI
    isplitl [HksL]; · iexact HksL
    isplitl [Hkr]; · iexact Hkr
    isplitl [HO]; · iexact HO
    isplitl [Ht0]; · iexact Ht0
    iexact Ht2
  all_goals iintro ⟨Hs0, HO⟩
  -- the values: waited for, converted, sent
  all_goals iapply (wp_ldwait c (ldS_eq (sl h) 1 o8) (mayWait_mid (F := F) c h (ldS_lt _ _)) rfl) $$ [HfV HO]
  · isplitl [HfV]; · iexact HfV
    isplitl [HO]; · iexact HO
    iexact Hlev
  rotate_left
  · isplitl [HfV]; · iexact HfV
    isplitl [HO]; · iexact HO
    iexact Hlev
  all_goals iintro ⟨⟨HbV, HcV⟩, HvV, HO⟩
  all_goals iapply (wp_load_at c o4 (inb' := inb_slot (sl h))) $$ HbV
  all_goals iintro HbV
  all_goals iapply (wp_load_at c o5 (inb' := inb_slab h)) $$ Hvs
  all_goals iintro Hvs
  all_goals iapply (wp_store_at c o5 (inb' := inb_slab h)) $$ Hvs
  all_goals iintro Hvs
  all_goals ihave Hvs := (half_VB m c h) $$ Hvs
  all_goals icases Hvs with ⟨HvsL, HvsR⟩
  all_goals iapply (wp_xsend m c K h o7 1 3 (xS1_eq h o6) (xS3_eq h o6) (dev3_eq c) (NX_vr h) (X := VB m c h) (BI.Entails.refl _) (pay3 m c h)) $$ [HvsL Hvr HO Ht1 Ht3]
  · isplitr; · iexact HI
    isplitl [HvsL]; · iexact HvsL
    isplitl [Hvr]; · iexact Hvr
    isplitl [HO]; · iexact HO
    isplitl [Ht1]; · iexact Ht1
    iexact Ht3
  rotate_left
  · isplitr; · iexact HI
    isplitl [HvsL]; · iexact HvsL
    isplitl [Hvr]; · iexact Hvr
    isplitl [HO]; · iexact HO
    isplitl [Ht1]; · iexact Ht1
    iexact Ht3
  all_goals iintro ⟨Hs1, HO⟩
  -- the queries: waited for, scaled, converted
  all_goals iapply (wp_ldwait c (ldS_eq (sl h) 2 o9) (mayWait_ld (F := F) c _ (ldS_lt _ _)) rfl) $$ [HfQ HO]
  · isplitl [HfQ]; · iexact HfQ
    isplitl [HO]; · iexact HO
    iexact Hlev
  rotate_left
  · isplitl [HfQ]; · iexact HfQ
    isplitl [HO]; · iexact HO
    iexact Hlev
  all_goals iintro ⟨⟨HbQ, HcQ⟩, HvQ, HO⟩
  all_goals iapply (wp_load_at c o4 (inb' := inb_slot (sl h))) $$ HbQ
  all_goals iintro HbQ
  all_goals iapply (wp_load_at c o5 (inb' := inb_slab h)) $$ Hqs
  all_goals iintro Hqs
  all_goals iapply (wp_store_at c o5 (inb' := inb_slab h)) $$ Hqs
  all_goals iintro Hqs
  -- the attention to the device's own keys
  all_goals iapply (wp_load_at c o5 (inb' := inb_slab h)) $$ Hqs
  all_goals iintro Hqs
  all_goals iapply (wp_load_at c o5 (inb' := inb_slab h)) $$ HksR
  all_goals iintro HksR
  all_goals iapply (wp_load_at c o10 (inb' := inb_lslab h)) $$ Hla
  all_goals iintro Hla
  all_goals iapply (wp_store_at c o10 (inb' := inb_lslab h)) $$ Hla
  all_goals iintro Hla
  all_goals iapply (wp_load_at c o5 (inb' := inb_slab h)) $$ HvsR
  all_goals iintro HvsR
  all_goals iapply (wp_load_at c o5 (inb' := inb_slab h)) $$ Hoa
  all_goals iintro Hoa
  all_goals iapply (wp_store_at c o5 (inb' := inb_slab h)) $$ Hoa
  all_goals iintro Hoa
  all_goals iapply (wpk_ret c)
  all_goals iapply Hk
  all_goals try unfold lfree
  all_goals unfold HC cols locs1 sends1 poss scrs rcrs
  all_goals isplitl [HcK HcV HcQ Hqs Hoa Hla HksR HvsR Ho Hpos Hs0 Hs1 Hr2 Hr3]
  · isplitl [HcK HcV HcQ]
    · isplitl [HcK]; · iexact HcK
      isplitl [HcV]; · iexact HcV
      iexact HcQ
    isplitl [Hqs Hoa Hla]
    · isplitl [Hqs]; · iexact Hqs
      isplitl [Hoa]; · iexact Hoa
      iexact Hla
    isplitl [HksR HvsR]
    · isplitl [HksR]; · iexact HksR
      iexact HvsR
    isplitl [Ho]; · iexact Ho
    isplitl [Hpos]; · iexact Hpos
    isplitl [Hs0 Hs1]
    · isplitl [Hs0]; · iexact Hs0
      iexact Hs1
    isplitl [Hr2]; · iexact Hr2
    iexact Hr3
  · isplitl [HbK HvK HbV HvV HbQ HvQ]
    · isplitl [HbK HvK]
      · isplitl [HbK]; · iexists _; iexact HbK
        iexact HvK
      isplitl [HbV HvV]
      · isplitl [HbV]; · iexists _; iexact HbV
        iexact HvV
      isplitl [HbQ]; · iexists _; iexact HbQ
      iexact HvQ
    isplitl [HO]; · iexact HO
    iexact HR
  · isplitl [HcK HcV HcQ]
    · isplitl [HcK]; · iexact HcK
      isplitl [HcV]; · iexact HcV
      iexact HcQ
    isplitl [Hqs Hoa Hla]
    · isplitl [Hqs]; · iexact Hqs
      isplitl [Hoa]; · iexact Hoa
      iexact Hla
    isplitl [HksR HvsR]
    · isplitl [HksR]; · iexact HksR
      iexact HvsR
    isplitl [Ho]; · iexact Ho
    isplitl [Hpos]; · iexact Hpos
    isplitl [Hs0 Hs1]
    · isplitl [Hs0]; · iexact Hs0
      iexact Hs1
    isplitl [Hr2]; · iexact Hr2
    iexact Hr3
  · isplitl [HbK HvK HbV HvV HbQ HvQ]
    · isplitl [HbK HvK]
      · isplitl [HbK]; · iexists _; iexact HbK
        iexact HvK
      isplitl [HbV HvV]
      · isplitl [HbV]; · iexists _; iexact HbV
        iexact HvV
      isplitl [HbQ]; · iexists _; iexact HbQ
      iexact HvQ
    isplitl [HO]; · iexact HO
    iexact HR

end Cert.AttnProof

end
-- ==== Proof.Point.lean ====
module
public import proofs.«01_k».proof.Proof.Phase0
@[expose] public section
noncomputable section
namespace Cert.AttnProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
variable {F : FTy → Type} [FloatOps F]
local notation "𝕄" => MT nD τ sig Unit (Elt F) ℕ UU ℕ

variable (m : (ℓ : Loc nD τ sig) → Buf (Elt F) ℓ) (ρ : Dev nD → PrngReg)

variable (c : Dev nD)

/-! ## A point of the first phase -/

section
variable {α β : Type}
/-- A program after another. -/
theorem wpk_bind {p : Prog (TpuEff nD τ sig (Elt F) Λ₀ .tc) α} {k : α → Prog (TpuEff nD τ sig (Elt F) Λ₀ .tc) β} {Q : β → sProp (MT nD τ sig Unit (Elt F) ℕ UU ℕ)} :
    wpk c p (fun a => wpk c (k a) Q) ⊢ wpk c (p >>= k) Q := by
  unfold wpk; rw [wp_bind]
end

variable {Q : PUnit → sProp (MT nD τ sig Unit (Elt F) ℕ UU ℕ)}

set_option maxHeartbeats 400000 in
/-- The whole body at head `h` of the first phase: besides, the loads of the head two further are started, if there is one. -/
theorem sound_p0 (K : Dev nD × KI → ℕ) (i : grid0.Coords) (h : Fin 16) (hi : (i 1).val = h.val) (h1 : k0_cond1 i = 1#1) (h4 : ¬ k0_cond4 i = 1#1) {P R N N' : sProp 𝕄}
    (hP : (h = 0 ∧ P = pro0 m c ∧ R = pro1 m c) ∨ (h ≠ 0 ∧ P = main0 m c h ∧ R = iprop(emp)))
    (hN : (∃ g : Fin 16, g.val = h.val + 2 ∧ N = cols m c g ∧ N' = lf m c g) ∨ (16 ≤ h.val + 2 ∧ N = iprop(emp) ∧ N' = lfree (F := F) c (sl h))) :
    iprop(recs m K ∗ levAts L lv ∗ P ∗ rest0 (F := F) c h ∗ N)
      ⊢ iprop((iprop(HC m c h ∗ owesE (F := F) c (Orem c (h.val + 1)) ∗ R ∗ N') -∗ Q ⟨⟩)
        -∗ wpk c (cc0__body (F := F) i qM (Memref.isWhole_whole _) kM (Memref.isWhole_whole _) vM (Memref.isWhole_whole _) oM (Memref.isWhole_whole _) qsM (Memref.isWhole_whole _) qbM (Memref.isWhole_whole _)
          kbM (Memref.isWhole_whole _) vbM (Memref.isWhole_whole _) ksM (Memref.isWhole_whole _) vsM (Memref.isWhole_whole _) krM (Memref.isWhole_whole _) vrM (Memref.isWhole_whole _) oaM (Memref.isWhole_whole _)
          laM (Memref.isWhole_whole _) obM (Memref.isWhole_whole _) cc0_scratch11 cc0_scratch12 cc0_scratch13 cc0_scratch14 cc0_scratch15 cc0_scratch16) Q) := by
  simp only [cc0__body_eq_skeleton]; unfold cc0__body_skel
  rcases hN with ⟨g, hg, rfl, rfl⟩ | ⟨hlt, rfl, rfl⟩
  · have h3 : k0_cond3 i = 1#1 := (cond3_iff i).mpr (by have := g.isLt; omega)
    have hs : sl h = sl g := Fin.ext (by show h.val % 2 = g.val % 2; omega)
    have o11 : k0_off11 i = ![(sl g).val, (0 : Fin 3).val] := (k0_off11_eq i).trans (by rw [hi, ← hs]; rfl)
    have o14 : k0_off14 i = ![(sl g).val, (1 : Fin 3).val] := (k0_off14_eq i).trans (by rw [hi, ← hs]; rfl)
    have o15 : k0_off15 i = ![(sl g).val, (2 : Fin 3).val] := (k0_off15_eq i).trans (by rw [hi, ← hs]; rfl)
    have o12 : k0_off12 i = ![(sl g).val, 0, 0] := (k0_off12_eq i).trans (by rw [hi, ← hs]; rfl)
    have o13 : k0_off13 i = ![0, 0, g.val, 0] := (k0_off13_eq i).trans (by rw [hi, hg])
    simp only [h1, h3, h4, dite_true, dite_false, Prog.lift, Prog.bind_op, Prog.bind_ret, Prog.pure_eq_ret, wp_deviceId, bind_assoc]
    iintro ⟨#HI, #Hlev, HP, Hr, HN⟩ Hk
    iapply (wpk_bind c)
    iapply (sound_4 m c K i h hi h1 _ _ _ _ _ hP) $$ [HP Hr]
    · isplitr; · iexact HI
      isplitr; · iexact Hlev
      isplitl [HP]; · iexact HP
      iexact Hr
    rw [hs]
    unfold lfree cols
    icases HN with ⟨HcK, HcV, HcQ⟩
    iintro ⟨HC, ⟨⟨HbK, HvK⟩, ⟨HbV, HvV⟩, ⟨HbQ, HvQ⟩⟩, HO, HR⟩
    iapply (wp_ld c 0 g o13 o12 (ldS_eq _ 0 o11) (NL_kb _)) $$ [HcK HbK HvK]
    · isplitl [HcK]; · iexact HcK
      isplitl [HbK]; · iexact HbK
      iexact HvK
    iintro HfK
    iapply (wp_ld c 1 g o13 o12 (ldS_eq _ 1 o14) (NL_vb _)) $$ [HcV HbV HvV]
    · isplitl [HcV]; · iexact HcV
      isplitl [HbV]; · iexact HbV
      iexact HvV
    iintro HfV
    iapply (wp_ld c 2 g o13 o12 (ldS_eq _ 2 o15) (NL_qb _)) $$ [HcQ HbQ HvQ]
    · isplitl [HcQ]; · iexact HcQ
      isplitl [HbQ]; · iexact HbQ
      iexact HvQ
    iintro HfQ
    iapply (wpk_ret c)
    iapply Hk
    isplitl [HC]; · iexact HC
    isplitl [HO]; · iexact HO
    isplitl [HR]; · iexact HR
    unfold lf
    isplitl [HfK]; · iexact HfK
    isplitl [HfV]; · iexact HfV
    iexact HfQ
  · have h3 : ¬ k0_cond3 i = 1#1 := fun h => absurd ((cond3_iff i).mp h) (by omega)
    simp only [h1, h3, h4, dite_true, dite_false, Prog.lift, Prog.bind_op, Prog.bind_ret, Prog.pure_eq_ret, wp_deviceId, bind_assoc]
    iintro ⟨#HI, #Hlev, HP, Hr, HN⟩ Hk
    iapply (wpk_bind c)
    iapply (sound_4 m c K i h hi h1 _ _ _ _ _ hP) $$ [HP Hr]
    · isplitr; · iexact HI
      isplitr; · iexact Hlev
      isplitl [HP]; · iexact HP
      iexact Hr
    iintro ⟨HC, Hf, HO, HR⟩
    iapply (wpk_ret c)
    iapply Hk
    isplitl [HC]; · iexact HC
    isplitl [HO]; · iexact HO
    isplitl [HR]; · iexact HR
    iexact Hf

end Cert.AttnProof

end
-- ==== Proof.States.lean ====
module
public import proofs.«01_k».proof.Proof.Phase1
public import proofs.«01_k».proof.Proof.Point
@[expose] public section
noncomputable section
namespace Cert.AttnProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
variable {F : FTy → Type} [FloatOps F]
local notation "𝕄" => MT nD τ sig Unit (Elt F) ℕ UU ℕ

variable (m : (ℓ : Loc nD τ sig) → Buf (Elt F) ℓ) (ρ : Dev nD → PrngReg)

variable (c : Dev nD)

/-! ## Taking two or three of a family apart -/

section
variable {ι : Type} [Fintype ι] [DecidableEq ι]

theorem bigSep_upd2 {Φ Φ' : ι → sProp 𝕄} (a b : ι) (hab : b ≠ a) (h : ∀ x, x ≠ a → x ≠ b → Φ x = Φ' x) :
    bigSep Finset.univ Φ ⊢ iprop((Φ a ∗ Φ b) ∗ (iprop(Φ' a ∗ Φ' b) -∗ bigSep Finset.univ Φ')) := by
  have hm : b ∈ Finset.univ.erase a := Finset.mem_erase.mpr ⟨hab, Finset.mem_univ _⟩
  rw [bigSep_univ_split a, bigSep_univ_split (Φ := Φ') a, bigSep_erase hm, bigSep_erase (Φ := Φ') hm]
  show iprop(Φ a ∗ Φ b ∗ bigSep ((Finset.univ.erase a).erase b) Φ) ⊢ iprop((Φ a ∗ Φ b) ∗ (iprop(Φ' a ∗ Φ' b) -∗ iprop(Φ' a ∗ Φ' b ∗ bigSep ((Finset.univ.erase a).erase b) Φ')))
  iintro ⟨Ha, Hb, Hr⟩
  isplitl [Ha Hb]
  · isplitl [Ha]; · iexact Ha
    iexact Hb
  iintro ⟨Ha, Hb⟩
  isplitl [Ha]; · iexact Ha
  isplitl [Hb]; · iexact Hb
  rw [bigSep_congr (Φ := Φ') (Ψ := Φ) fun x hx => (h x (Finset.mem_erase.mp (Finset.mem_erase.mp hx).2).1 (Finset.mem_erase.mp hx).1).symm]
  iexact Hr

theorem bigSep_upd3 {Φ Φ' : ι → sProp 𝕄} (a b d : ι) (hab : b ≠ a) (hda : d ≠ a) (hdb : d ≠ b) (h : ∀ x, x ≠ a → x ≠ b → x ≠ d → Φ x = Φ' x) :
    bigSep Finset.univ Φ ⊢ iprop((Φ a ∗ Φ b ∗ Φ d) ∗ (iprop(Φ' a ∗ Φ' b ∗ Φ' d) -∗ bigSep Finset.univ Φ')) := by
  have hm : b ∈ Finset.univ.erase a := Finset.mem_erase.mpr ⟨hab, Finset.mem_univ _⟩
  have hn : d ∈ (Finset.univ.erase a).erase b := Finset.mem_erase.mpr ⟨hdb, Finset.mem_erase.mpr ⟨hda, Finset.mem_univ _⟩⟩
  rw [bigSep_univ_split a, bigSep_univ_split (Φ := Φ') a, bigSep_erase hm, bigSep_erase (Φ := Φ') hm, bigSep_erase hn, bigSep_erase (Φ := Φ') hn]
  show iprop(Φ a ∗ Φ b ∗ Φ d ∗ bigSep (((Finset.univ.erase a).erase b).erase d) Φ)
    ⊢ iprop((Φ a ∗ Φ b ∗ Φ d) ∗ (iprop(Φ' a ∗ Φ' b ∗ Φ' d) -∗ iprop(Φ' a ∗ Φ' b ∗ Φ' d ∗ bigSep (((Finset.univ.erase a).erase b).erase d) Φ')))
  iintro ⟨Ha, Hb, Hd, Hr⟩
  isplitl [Ha Hb Hd]
  · isplitl [Ha]; · iexact Ha
    isplitl [Hb]; · iexact Hb
    iexact Hd
  iintro ⟨Ha, Hb, Hd⟩
  isplitl [Ha]; · iexact Ha
  isplitl [Hb]; · iexact Hb
  isplitl [Hd]; · iexact Hd
  rw [bigSep_congr (Φ := Φ') (Ψ := Φ) fun x hx => (h x (Finset.mem_erase.mp (Finset.mem_erase.mp (Finset.mem_erase.mp hx).2).2).1
    (Finset.mem_erase.mp (Finset.mem_erase.mp hx).2).1 (Finset.mem_erase.mp hx).1).symm]
  iexact Hr
end

/-! ## What a device holds between two points -/

/-- A head when the first phase has done `t` heads: done, being loaded, or not yet; -/
def heads0 (t : ℕ) (h : Fin 16) : sProp 𝕄 := if h.val < t then HC m c h else if h.val < t + 2 then HB m c h else HA m c h
/-- the places of the loads: free again only at the end; -/
def LB (t : ℕ) : sProp 𝕄 := iprop((if t < 15 then emp else lfree (F := F) c 0) ∗ (if t < 16 then emp else lfree (F := F) c 1))
/-- all of it, the barrier closed. -/
def ph0 (t : ℕ) : sProp 𝕄 :=
  iprop((bigSep Finset.univ fun h : Fin 16 => heads0 m c t h) ∗ LB (F := F) c t ∗ (sfree (F := F) c 0 ∗ sfree (F := F) c 1) ∗ semVal (barCell c) 0)
/-- A head when the second phase has done `u` heads: not yet, being stored, or stored; -/
def heads1 (u : ℕ) (h : Fin 16) : sProp 𝕄 := if u ≤ h.val then HC m c h else if u ≤ h.val + 2 ∧ u ≠ 16 then HD m c h else HE m c h
/-- the places of the stores: free until first used, and at the end; -/
def SB (u : ℕ) : sProp 𝕄 := iprop((if u = 0 ∨ u = 16 then sfree (F := F) c 0 else emp) ∗ (if u ≤ 1 ∨ u = 16 then sfree (F := F) c 1 else emp))
/-- all of it. -/
def ph1 (u : ℕ) : sProp 𝕄 :=
  iprop((bigSep Finset.univ fun h : Fin 16 => heads1 m c u h) ∗ SB (F := F) c u ∗ (lfree (F := F) c 0 ∗ lfree (F := F) c 1) ∗ semVal (barCell c) 0)
/-- Before the first point, but for its dues at the barrier: every head, every place free, its own landing places. -/
def st0 : sProp 𝕄 :=
  iprop((bigSep Finset.univ fun h : Fin 16 => iprop(cols m c h ∗ rest0 (F := F) c h)) ∗ (lfree (F := F) c 0 ∗ lfree (F := F) c 1) ∗ (sfree (F := F) c 0 ∗ sfree (F := F) c 1)
    ∗ (bigSep Finset.univ fun h : Fin 16 => landing (F := F) c h) ∗ dutyTok ER (barCell (peer c)) 0 () ∗ atPos ER (barCell c) 0 ∅ 0 ∗ cred (tallyAt (barCell c) () 1))

theorem heads0_C {t : ℕ} {h : Fin 16} (ht : h.val < t) : heads0 m c t h = HC m c h := if_pos ht
theorem heads0_B {t : ℕ} {h : Fin 16} (h1 : t ≤ h.val) (h2 : h.val < t + 2) : heads0 m c t h = HB m c h := (if_neg (by omega)).trans (if_pos h2)
theorem heads0_A {t : ℕ} {h : Fin 16} (h1 : t + 2 ≤ h.val) : heads0 m c t h = HA m c h := (if_neg (by omega)).trans (if_neg (by omega))
theorem heads1_C {u : ℕ} {h : Fin 16} (hu : u ≤ h.val) : heads1 m c u h = HC m c h := if_pos hu
theorem heads1_D {u : ℕ} {h : Fin 16} (h1 : h.val < u) (h2 : u ≤ h.val + 2) (h3 : u ≠ 16) : heads1 m c u h = HD m c h := (if_neg (by omega)).trans (if_pos ⟨h2, h3⟩)
theorem heads1_E {u : ℕ} {h : Fin 16} (h1 : h.val < u) (h2 : h.val + 2 < u ∨ u = 16) : heads1 m c u h = HE m c h := (if_neg (by omega)).trans (if_neg (by omega))

/-- The heads a point of the first phase does not touch stay as they are. -/
theorem heads0_eq {h : Fin 16} {x : Fin 16} (h1 : x ≠ h) (h2 : x.val ≠ h.val + 2) : heads0 m c h.val x = heads0 m c (h.val + 1) x := by
  have h1 : x.val ≠ h.val := fun e => h1 (Fin.ext e)
  unfold heads0
  by_cases hx : x.val < h.val
  · rw [if_pos hx, if_pos (by omega)]
  · rw [if_neg hx, if_neg (c := x.val < h.val + 1) (by omega)]
    by_cases hy : x.val < h.val + 2
    · rw [if_pos hy, if_pos (by omega)]
    · rw [if_neg hy, if_neg (by omega)]
theorem heads1_eq {h : Fin 16} {x : Fin 16} (h1 : x ≠ h) (h2 : x.val + 2 ≠ h.val) (hh : h.val < 15) : heads1 m c h.val x = heads1 m c (h.val + 1) x := by
  have h1 : x.val ≠ h.val := fun e => h1 (Fin.ext e)
  unfold heads1
  by_cases hx : h.val ≤ x.val
  · rw [if_pos hx, if_pos (by omega)]
  · rw [if_neg hx, if_neg (c := h.val + 1 ≤ x.val) (by omega)]
    by_cases hy : h.val ≤ x.val + 2
    · rw [if_pos ⟨hy, by omega⟩, if_pos ⟨by omega, by omega⟩]
    · rw [if_neg (by omega), if_neg (by omega)]
omit [FloatOps F] in
theorem LB_eq (t : ℕ) (ht : t + 2 < 16) : LB (F := F) c t = LB (F := F) c (t + 1) := by
  unfold LB; rw [if_pos (by omega), if_pos (by omega), if_pos (by omega), if_pos (by omega)]

/-- A point of the first phase after the first, with a head left to load; -/
theorem step0a (h g : Fin 16) (hg : g.val = h.val + 2) :
    ph0 m c h.val ⊢ iprop((lf m c h ∗ landing (F := F) (peer c) h ∗ rest0 (F := F) c h ∗ cols m c g) ∗ (iprop(HC m c h ∗ lf m c g) -∗ ph0 m c (h.val + 1))) := by
  have hne : g ≠ h := fun e => by rw [e] at hg; omega
  unfold ph0
  have step := (bigSep_upd2 (Φ := heads0 m c h.val) (Φ' := heads0 m c (h.val + 1)) h g hne fun x h1 h2 => heads0_eq m c h1 fun e => h2 (Fin.ext (by omega)))
  rw [heads0_B m c le_rfl (by omega), heads0_A m c (by omega), heads0_C m c (by omega : h.val < h.val + 1), heads0_B m c (by omega : h.val + 1 ≤ g.val) (by omega)] at step
  rw [LB_eq c h.val (by have := g.isLt; omega)]
  iintro ⟨Hh, HL, HS, HB⟩
  ihave ⟨⟨Ha, Hg⟩, Hk⟩ := step $$ Hh
  unfold HB HA
  icases Ha with ⟨H1, H2, H3⟩
  icases Hg with ⟨H4, H5, H6⟩
  isplitl [H1 H2 H3 H4]
  · isplitl [H1]; · iexact H1
    isplitl [H2]; · iexact H2
    isplitl [H3]; · iexact H3
    iexact H4
  iintro ⟨HC, Hlf⟩
  isplitl [Hk HC Hlf H5 H6]
  · iapply Hk
    isplitl [HC]; · iexact HC
    isplitl [Hlf]; · iexact Hlf
    isplitl [H5]; · iexact H5
    iexact H6
  isplitl [HL]; · iexact HL
  isplitl [HS]; · iexact HS
  iexact HB

/-- with none left. -/
theorem step0b (h : Fin 16) (hg : 16 ≤ h.val + 2) :
    ph0 m c h.val ⊢ iprop((lf m c h ∗ landing (F := F) (peer c) h ∗ rest0 (F := F) c h) ∗ (iprop(HC m c h ∗ lfree (F := F) c (sl h)) -∗ ph0 m c (h.val + 1))) := by
  unfold ph0
  have step := (bigSep_upd1 (Φ := heads0 m c h.val) (Φ' := heads0 m c (h.val + 1)) h fun x h1 => heads0_eq m c h1 (by have := x.isLt; omega))
  rw [heads0_B m c le_rfl (by omega), heads0_C m c (by omega : h.val < h.val + 1)] at step
  iintro ⟨Hh, HL, HS, HB⟩
  ihave ⟨Ha, Hk⟩ := step $$ Hh
  unfold HB
  icases Ha with ⟨H1, H2, H3⟩
  isplitl [H1 H2 H3]
  · isplitl [H1]; · iexact H1
    isplitl [H2]; · iexact H2
    iexact H3
  iintro ⟨HC, Hlf⟩
  isplitl [Hk HC]
  · iapply Hk; iexact HC
  isplitl [HL Hlf]
  · unfold LB
    rcases (by have := h.isLt; omega : h.val = 14 ∨ h.val = 15) with e | e
    · rw [e, if_neg (c := 14 + 1 < 15) (by omega), if_pos (c := 14 + 1 < 16) (by omega), show sl h = 0 from Fin.ext (by show h.val % 2 = 0; omega)]
      isplitl [Hlf]; · iexact Hlf
      iempintro
    · rw [e, if_neg (c := 15 + 1 < 15) (by omega), if_neg (c := 15 + 1 < 16) (by omega), if_neg (c := 15 < 15) (by omega), show sl h = 1 from Fin.ext (by show h.val % 2 = 1; omega)]
      icases HL with ⟨HL, -⟩
      isplitl [HL]; · iexact HL
      iexact Hlf
  isplitl [HS]; · iexact HS
  iexact HB

/-- The heads but the first three. -/
abbrev later : Finset (Fin 16) := ((Finset.univ.erase 0).erase 1).erase 2
omit [FloatOps F] in
theorem take2 (Φ : Fin 16 → sProp 𝕄) : bigSep (Finset.univ.erase 0) Φ = iprop(Φ 1 ∗ Φ 2 ∗ bigSep later Φ) := by
  have hm : (1 : Fin 16) ∈ Finset.univ.erase 0 := by decide
  have hn : (2 : Fin 16) ∈ (Finset.univ.erase 0).erase 1 := by decide
  rw [bigSep_erase hm, bigSep_erase hn]; rfl
omit [FloatOps F] in
theorem take3 (Φ : Fin 16 → sProp 𝕄) : bigSep Finset.univ Φ = iprop(Φ 0 ∗ Φ 1 ∗ Φ 2 ∗ bigSep later Φ) := by
  rw [bigSep_univ_split (0 : Fin 16), take2]; rfl
theorem later_HA : iprop((bigSep later fun h : Fin 16 => iprop(cols m c h ∗ rest0 (F := F) c h)) ∗ bigSep later fun h : Fin 16 => landing (F := F) (peer c) h)
    ⊢ bigSep later fun h : Fin 16 => heads0 m c 1 h := by
  rw [← bigSep_sep']
  refine bigSep_mono fun x hx => ?_
  have h0 : x.val ≠ 0 := fun e => (Finset.mem_erase.mp (Finset.mem_erase.mp (Finset.mem_erase.mp hx).2).2).1 (Fin.ext e)
  have h1 : x.val ≠ 1 := fun e => (Finset.mem_erase.mp (Finset.mem_erase.mp hx).2).1 (Fin.ext e)
  have h2 : x.val ≠ 2 := fun e => (Finset.mem_erase.mp hx).1 (Fin.ext e)
  rw [heads0_A m c (by omega)]; unfold HA
  show iprop((cols m c x ∗ rest0 (F := F) c x) ∗ landing (F := F) (peer c) x) ⊢ iprop(cols m c x ∗ landing (F := F) (peer c) x ∗ rest0 (F := F) c x)
  iintro ⟨⟨H1, H3⟩, H2⟩
  isplitl [H1]; · iexact H1
  isplitl [H2]; · iexact H2
  iexact H3

/-- The first point. -/
theorem step00 : iprop(st0 m c ∗ owesE (F := F) c (O₀ c)) ⊢ iprop((pro0 m c ∗ rest0 (F := F) c 0 ∗ cols m c 2) ∗ (iprop(HC m c 0 ∗ pro1 m c ∗ lf m c 2) -∗ ph0 m c 1)) := by
  unfold st0 pro0 pro1 ph0
  rw [take3 (fun h : Fin 16 => iprop(cols m c h ∗ rest0 (F := F) c h)), take3 (fun h : Fin 16 => heads0 m c 1 h), take2 (fun h : Fin 16 => landing (F := F) (peer c) h),
    heads0_C m c (by decide : (0 : Fin 16).val < 1), heads0_B m c (by decide : 1 ≤ (1 : Fin 16).val) (by decide), heads0_B m c (by decide : 1 ≤ (2 : Fin 16).val) (by decide)]
  unfold LB; rw [if_pos (c := 1 < 15) (by decide), if_pos (c := 1 < 16) (by decide)]
  unfold HB
  iintro ⟨⟨⟨⟨Hc0, Hr0⟩, ⟨Hc1, Hr1⟩, ⟨Hc2, Hr2⟩, Hrest⟩, ⟨HL0, HL1⟩, HS, Hl, Ht, Hp, Hcr⟩, HO⟩
  isplitl [Hc0 Hr0 Hc1 Hc2 HL0 HL1 Hl Ht Hp Hcr HO]
  · isplitl [Hc0 Hc1 HL0 HL1 Hl Ht Hp Hcr HO]
    · isplitl [Hc0 HL0]
      · isplitl [Hc0]; · iexact Hc0
        iexact HL0
      isplitl [Hc1 HL1]
      · isplitl [Hc1]; · iexact Hc1
        iexact HL1
      isplitl [Hl]; · iexact Hl
      isplitl [Ht]; · iexact Ht
      isplitl [Hp]; · iexact Hp
      isplitl [Hcr]; · iexact Hcr
      iexact HO
    isplitl [Hr0]; · iexact Hr0
    iexact Hc2
  iintro ⟨HC, ⟨Hf1, Hz, Hl1, Hl2, Hls⟩, Hf2⟩
  isplitl [HC Hf1 Hf2 Hl1 Hl2 Hls Hr1 Hr2 Hrest]
  · isplitl [HC]; · iexact HC
    isplitl [Hf1 Hl1 Hr1]
    · isplitl [Hf1]; · iexact Hf1
      isplitl [Hl1]; · iexact Hl1
      iexact Hr1
    isplitl [Hf2 Hl2 Hr2]
    · isplitl [Hf2]; · iexact Hf2
      isplitl [Hl2]; · iexact Hl2
      iexact Hr2
    iapply (later_HA m c)
    isplitl [Hrest]; · iexact Hrest
    iexact Hls
  isplitr
  · isplitr <;> iempintro
  isplitl [HS]; · iexact HS
  iexact Hz

/-- From the first phase to the second. -/
theorem ph0_ph1 : ph0 m c 16 ⊢ ph1 m c 0 := by
  unfold ph0 ph1 LB SB
  rw [if_neg (by decide), if_neg (by decide), if_pos (by decide), if_pos (by decide),
    bigSep_congr (Φ := fun h : Fin 16 => heads0 m c 16 h) (Ψ := fun h : Fin 16 => heads1 m c 0 h) fun h _ => by rw [heads0_C m c h.isLt, heads1_C m c (Nat.zero_le _)]]
  iintro ⟨H1, H2, H3, H4⟩
  isplitl [H1]; · iexact H1
  isplitl [H3]; · iexact H3
  isplitl [H2]; · iexact H2
  iexact H4

/-- A point of the second phase at one of the first two heads; -/
theorem step1a (h : Fin 16) (hh : h.val < 2) :
    ph1 m c h.val ⊢ iprop((sfree (F := F) c (sl h) ∗ HC m c h) ∗ (iprop(fin2 m c h ∗ stF m c h) -∗ ph1 m c (h.val + 1))) := by
  unfold ph1
  have step := (bigSep_upd1 (Φ := heads1 m c h.val) (Φ' := heads1 m c (h.val + 1)) h fun x h1 => heads1_eq m c h1 (by omega) (by omega))
  rw [heads1_C m c le_rfl, heads1_D m c (by omega : h.val < h.val + 1) (by omega) (by omega)] at step
  iintro ⟨Hh, HS, HL, HB⟩
  ihave ⟨Ha, Hk⟩ := step $$ Hh
  unfold HD
  have key : SB (F := F) c h.val ⊢ iprop(sfree (F := F) c (sl h) ∗ SB (F := F) c (h.val + 1)) := by
    unfold SB
    rcases (by omega : h.val = 0 ∨ h.val = 1) with e | e
    · rw [e, if_pos (by decide), if_pos (by decide), if_neg (by decide), if_pos (by decide), show sl h = 0 from Fin.ext (by show h.val % 2 = 0; omega)]
      iintro ⟨H1, H2⟩
      isplitl [H1]; · iexact H1
      isplitr; · iempintro
      iexact H2
    · rw [e, if_neg (by decide), if_pos (by decide), if_neg (by decide), if_neg (by decide), show sl h = 1 from Fin.ext (by show h.val % 2 = 1; omega)]
      iintro ⟨H1, H2⟩
      isplitl [H2]; · iexact H2
      isplitr <;> iempintro
  ihave ⟨H1, HS⟩ := key $$ HS
  isplitl [Ha H1]
  · isplitl [H1]; · iexact H1
    iexact Ha
  iintro H
  isplitl [Hk H]
  · iapply Hk; iexact H
  isplitl [HS]; · iexact HS
  isplitl [HL]; · iexact HL
  iexact HB

/-- at one in between; -/
theorem step1b (h g : Fin 16) (hg : g.val + 2 = h.val) (hh : h.val < 15) :
    ph1 m c h.val ⊢ iprop((stF m c g ∗ HC m c h) ∗ (iprop(fin2 m c h ∗ outd m c g ∗ stF m c h) -∗ ph1 m c (h.val + 1))) := by
  have hne : g ≠ h := fun e => by rw [e] at hg; omega
  have key : SB (F := F) c h.val = SB (F := F) c (h.val + 1) := by
    unfold SB; rw [if_neg (by omega), if_neg (by omega), if_neg (by omega), if_neg (by omega)]
  unfold ph1
  rw [key]
  have step := (bigSep_upd2 (Φ := heads1 m c h.val) (Φ' := heads1 m c (h.val + 1)) h g hne fun x h1 h2 => heads1_eq m c h1 (fun e => h2 (Fin.ext (by omega))) hh)
  rw [heads1_C m c le_rfl, heads1_D m c (by omega : h.val < h.val + 1) (by omega) (by omega), heads1_D m c (by omega : g.val < h.val) (by omega) (by omega), heads1_E m c (by omega : g.val < h.val + 1) (by omega)] at step
  iintro ⟨Hh, HS, HL, HB⟩
  ihave ⟨⟨Ha, Hg⟩, Hk⟩ := step $$ Hh
  unfold HD HE
  icases Hg with ⟨H1, H2⟩
  isplitl [Ha H2]
  · isplitl [H2]; · iexact H2
    iexact Ha
  iintro ⟨H3, H4, H5⟩
  isplitl [Hk H1 H3 H4 H5]
  · iapply Hk
    isplitl [H3 H5]
    · isplitl [H3]; · iexact H3
      iexact H5
    isplitl [H1]; · iexact H1
    iexact H4
  isplitl [HS]; · iexact HS
  isplitl [HL]; · iexact HL
  iexact HB

/-- at the last. -/
theorem step1c : ph1 m c 15 ⊢ iprop(((stF m c 13 ∗ stF m c 14) ∗ HC m c 15)
    ∗ (iprop(fin2 m c 15 ∗ outd m c 13 ∗ outd m c 14 ∗ outd m c 15 ∗ sfree (F := F) c 1 ∗ sfree (F := F) c 0) -∗ ph1 m c 16)) := by
  unfold ph1
  have step := (bigSep_upd3 (Φ := heads1 m c 15) (Φ' := heads1 m c 16) 13 14 15 (by decide) (by decide) (by decide) fun x h1 h2 h3 => by
    have h1 : x.val ≠ 13 := fun e => h1 (Fin.ext e)
    have h2 : x.val ≠ 14 := fun e => h2 (Fin.ext e)
    have h3 : x.val ≠ 15 := fun e => h3 (Fin.ext e)
    have := x.isLt
    rw [heads1_E m c (by omega) (by omega), heads1_E m c (by omega) (by omega)])
  rw [heads1_C m c (by decide : 15 ≤ (15 : Fin 16).val), heads1_D m c (by decide : (13 : Fin 16).val < 15) (by decide) (by decide), heads1_D m c (by decide : (14 : Fin 16).val < 15) (by decide) (by decide),
    heads1_E m c (by decide : (13 : Fin 16).val < 16) (by decide), heads1_E m c (by decide : (14 : Fin 16).val < 16) (by decide), heads1_E m c (by decide : (15 : Fin 16).val < 16) (by decide)] at step
  iintro ⟨Hh, HS, HL, HB⟩
  ihave ⟨⟨Ha, Hb, Hd⟩, Hk⟩ := step $$ Hh
  unfold HD HE SB
  rw [if_pos (c := 16 = 0 ∨ 16 = 16) (by decide), if_pos (c := 16 ≤ 1 ∨ 16 = 16) (by decide)]
  icases Ha with ⟨H1, H2⟩
  icases Hb with ⟨H3, H4⟩
  isplitl [H2 H4 Hd]
  · isplitl [H2 H4]
    · isplitl [H2]; · iexact H2
      iexact H4
    iexact Hd
  iintro ⟨H5, H6, H7, H8, H9, H10⟩
  isplitl [Hk H1 H3 H5 H6 H7 H8]
  · iapply Hk
    isplitl [H1 H6]
    · isplitl [H1]; · iexact H1
      iexact H6
    isplitl [H3 H7]
    · isplitl [H3]; · iexact H3
      iexact H7
    isplitl [H5]; · iexact H5
    iexact H8
  isplitl [H9 H10]
  · isplitl [H10]; · iexact H10
    iexact H9
  isplitl [HL]; · iexact HL
  iexact HB

end Cert.AttnProof

end
-- ==== Proof.Body.lean ====
module
public import proofs.«01_k».proof.Proof.States
@[expose] public section
noncomputable section
namespace Cert.AttnProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
variable {F : FTy → Type} [FloatOps F]
local notation "𝕄" => MT nD τ sig Unit (Elt F) ℕ UU ℕ

variable (m : (ℓ : Loc nD τ sig) → Buf (Elt F) ℓ) (ρ : Dev nD → PrngReg)

variable (c : Dev nD)

/-! ## The body at every point -/

/-- What a device holds when `n` points are done. -/
def core (n : ℕ) : sProp 𝕄 := if n = 0 then st0 m c else if n ≤ 16 then ph0 m c n else ph1 m c (n - 16)
/-- That, with the cells' records and the levels. -/
def Phi (n : ℕ) : sProp 𝕄 := iprop((∃ K, recs m K ∗ levAts L lv) ∗ core m c n)
/-- What it owes then. -/
def owedAt (n : ℕ) : CellTallies nD τ sig Unit := if n = 0 then O₀ c else Orem c n

theorem core_0 : core m c 0 = st0 m c := if_pos rfl
theorem core_lo {n : ℕ} (h0 : n ≠ 0) (h : n ≤ 16) : core m c n = ph0 m c n := (if_neg h0).trans (if_pos h)
theorem core_hi (u : ℕ) (hu : u ≠ 0) : core m c (16 + u) = ph1 m c u := (if_neg (by omega)).trans ((if_neg (by omega)).trans (by rw [Nat.add_sub_cancel_left]))
theorem core_mid (u : ℕ) : core m c (16 + u) ⊢ ph1 m c u := by
  by_cases hu : u = 0
  · subst hu; rw [core_lo m c (by decide) (by decide)]; exact ph0_ph1 m c
  · rw [core_hi m c u hu]
theorem owedAt_0 : owedAt c 0 = O₀ c := if_pos rfl
theorem owedAt_pos {n : ℕ} (h0 : n ≠ 0) : owedAt c n = Orem c n := if_neg h0
theorem owedAt_hi {n : ℕ} (h : 16 ≤ n) : owedAt c n = 0 := (owedAt_pos c (by omega)).trans (Orem_end c n h)

theorem coords0 : ∀ t : Fin cfg0.N, ((grid0.coords t) 0).val = t.val / 16 := by decide
theorem coords1 : ∀ t : Fin cfg0.N, ((grid0.coords t) 1).val = t.val % 16 := by decide

/-- At every point the body takes what the device holds before it to what it holds after it. -/
theorem sound_body (t : Fin cfg0.N) :
    iprop(Phi m c t.val ∗ owesE (F := F) c (owedAt c t.val)) ⊢ wpk c (bodyAt0 (F := F) t) (fun _ => iprop(Phi m c (t.val + 1) ∗ owesE (F := F) c (owedAt c (t.val + 1)))) := by
  have ht : t.val < 32 := t.isLt
  have c0 := coords0 t
  have c1 := coords1 t
  unfold Phi
  by_cases hlo : t.val < 16
  · have h1 : k0_cond1 (grid0.coords t) = 1#1 := (cond1_iff _).mpr (by rw [c0]; omega)
    have h4 : ¬ k0_cond4 (grid0.coords t) = 1#1 := fun h => absurd ((cond4_iff _).mp h) (by rw [c0]; omega)
    obtain ⟨h, hh⟩ : ∃ h : Fin 16, t.val = h.val := ⟨⟨t.val, hlo⟩, rfl⟩
    have hi : ((grid0.coords t) 1).val = h.val := by rw [c1]; omega
    rw [hh, core_lo m c (Nat.succ_ne_zero _) (by omega : h.val + 1 ≤ 16), owedAt_pos c (Nat.succ_ne_zero _)]
    by_cases h0 : h = 0
    · subst h0
      rw [show (0 : Fin 16).val = 0 from rfl, core_0, owedAt_0]
      iintro ⟨⟨⟨%K, #HI, #Hlev⟩, Hc⟩, HO⟩
      ihave ⟨⟨HP, Hr, HN⟩, Hk⟩ := (step00 m c) $$ [Hc HO]
      · isplitl [Hc]; · iexact Hc
        iexact HO
      iapply (sound_p0 m c K (grid0.coords t) 0 hi h1 h4 (Or.inl ⟨rfl, rfl, rfl⟩) (Or.inl ⟨2, rfl, rfl, rfl⟩)) $$ [HP Hr HN]
      · isplitr; · iexact HI
        isplitr; · iexact Hlev
        isplitl [HP]; · iexact HP
        isplitl [Hr]; · iexact Hr
        iexact HN
      iintro ⟨HC, HO, HR, HN⟩
      isplitl [Hk HC HR HN]
      · isplitr
        · iexists K; isplitr; · iexact HI
          iexact Hlev
        iapply Hk
        isplitl [HC]; · iexact HC
        isplitl [HR]; · iexact HR
        iexact HN
      iexact HO
    · have hv : h.val ≠ 0 := fun e => h0 (Fin.ext e)
      rw [core_lo m c hv (by omega), owedAt_pos c hv]
      by_cases hg : h.val + 2 < 16
      · iintro ⟨⟨⟨%K, #HI, #Hlev⟩, Hc⟩, HO⟩
        ihave ⟨⟨H1, H2, Hr, HN⟩, Hk⟩ := (step0a m c h ⟨h.val + 2, hg⟩ rfl) $$ Hc
        iapply (sound_p0 m c K (grid0.coords t) h hi h1 h4 (Or.inr ⟨h0, rfl, rfl⟩) (Or.inl ⟨⟨h.val + 2, hg⟩, rfl, rfl, rfl⟩)) $$ [H1 H2 HO Hr HN]
        · isplitr; · iexact HI
          isplitr; · iexact Hlev
          isplitl [H1 H2 HO]
          · unfold main0
            isplitl [H1]; · iexact H1
            isplitl [H2]; · iexact H2
            iexact HO
          isplitl [Hr]; · iexact Hr
          iexact HN
        iintro ⟨HC, HO, -, HN⟩
        isplitl [Hk HC HN]
        · isplitr
          · iexists K; isplitr; · iexact HI
            iexact Hlev
          iapply Hk
          isplitl [HC]; · iexact HC
          iexact HN
        iexact HO
      · iintro ⟨⟨⟨%K, #HI, #Hlev⟩, Hc⟩, HO⟩
        ihave ⟨⟨H1, H2, Hr⟩, Hk⟩ := (step0b m c h (by omega)) $$ Hc
        iapply (sound_p0 m c K (grid0.coords t) h hi h1 h4 (Or.inr ⟨h0, rfl, rfl⟩) (Or.inr ⟨by omega, rfl, rfl⟩)) $$ [H1 H2 HO Hr]
        · isplitr; · iexact HI
          isplitr; · iexact Hlev
          isplitl [H1 H2 HO]
          · unfold main0
            isplitl [H1]; · iexact H1
            isplitl [H2]; · iexact H2
            iexact HO
          isplitl [Hr]; · iexact Hr
          iempintro
        iintro ⟨HC, HO, -, HN⟩
        isplitl [Hk HC HN]
        · isplitr
          · iexists K; isplitr; · iexact HI
            iexact Hlev
          iapply Hk
          isplitl [HC]; · iexact HC
          iexact HN
        iexact HO
  · have h1 : ¬ k0_cond1 (grid0.coords t) = 1#1 := fun h => absurd ((cond1_iff _).mp h) (by rw [c0]; omega)
    have h4 : k0_cond4 (grid0.coords t) = 1#1 := (cond4_iff _).mpr (by rw [c0]; omega)
    obtain ⟨h, hh⟩ : ∃ h : Fin 16, t.val = 16 + h.val := ⟨⟨t.val - 16, by omega⟩, by show t.val = 16 + (t.val - 16); omega⟩
    have hi : ((grid0.coords t) 1).val = h.val := by rw [c1]; omega
    rw [hh, Nat.add_assoc, core_hi m c (h.val + 1) (Nat.succ_ne_zero _), owedAt_hi c (Nat.le_add_right _ _), owedAt_hi c (Nat.le_add_right _ _)]
    iintro ⟨⟨⟨%K, #HI, #Hlev⟩, Hc⟩, HO⟩
    ihave Hc := (core_mid m c h.val) $$ Hc
    rcases (by omega : h.val < 2 ∨ (2 ≤ h.val ∧ h.val < 15) ∨ h.val = 15) with hc | hc | hc
    · ihave ⟨⟨HP, HC⟩, Hk⟩ := (step1a m c h hc) $$ Hc
      iapply (sound_56 m c K (grid0.coords t) h hi h1 h4 (Or.inl ⟨hc, rfl, rfl⟩)) $$ [HP HC HO]
      · isplitr; · iexact HI
        isplitr; · iexact Hlev
        isplitl [HO]; · iexact HO
        isplitl [HP]; · iexact HP
        iexact HC
      iintro ⟨Hf, HO, HR⟩
      isplitl [Hk Hf HR]
      · isplitr
        · iexists K; isplitr; · iexact HI
          iexact Hlev
        iapply Hk
        isplitl [Hf]; · iexact Hf
        iexact HR
      iexact HO
    · ihave ⟨⟨HP, HC⟩, Hk⟩ := (step1b m c h ⟨h.val - 2, by omega⟩ (by show h.val - 2 + 2 = h.val; omega) hc.2) $$ Hc
      iapply (sound_56 m c K (grid0.coords t) h hi h1 h4 (Or.inr (Or.inl ⟨⟨h.val - 2, by omega⟩, by show h.val - 2 + 2 = h.val; omega, hc.2, rfl, rfl⟩))) $$ [HP HC HO]
      · isplitr; · iexact HI
        isplitr; · iexact Hlev
        isplitl [HO]; · iexact HO
        isplitl [HP]; · iexact HP
        iexact HC
      iintro ⟨Hf, HO, HR⟩
      isplitl [Hk Hf HR]
      · isplitr
        · iexists K; isplitr; · iexact HI
          iexact Hlev
        iapply Hk
        isplitl [Hf]; · iexact Hf
        iexact HR
      iexact HO
    · have h15 : h = 15 := Fin.ext hc
      subst h15
      rw [show (15 : Fin 16).val = 15 from rfl]
      ihave ⟨⟨HP, HC⟩, Hk⟩ := (step1c m c) $$ Hc
      iapply (sound_56 m c K (grid0.coords t) 15 hi h1 h4 (Or.inr (Or.inr ⟨rfl, rfl, rfl⟩))) $$ [HP HC HO]
      · isplitr; · iexact HI
        isplitr; · iexact Hlev
        isplitl [HO]; · iexact HO
        isplitl [HP]; · iexact HP
        iexact HC
      iintro ⟨Hf, HO, HR⟩
      isplitl [Hk Hf HR]
      · isplitr
        · iexists K; isplitr; · iexact HI
          iexact Hlev
        iapply Hk
        isplitl [Hf]; · iexact Hf
        iexact HR
      iexact HO

/-! ## The obligation of the launch -/

def dats (_ : Fin 1) (c : Dev nD) : Dat τ (Elt F) Unit ℕ UU ℕ cfg0 c where
  A w := w.elim0
  after w _ := w.elim0
  Φ t := Phi m c t.val
  q _ := fullShare
  owed t := owedAt c t.val

/-- The library's body obligation on device `c`. -/
theorem body_obligation : BodyObligation (dats (F := F) m 0 c) (defs₀ (F := F)) 𝒱₀ () Set.univ := fun t => by
  have e1 : (dats (F := F) m 0 c).Φ t.castSucc = Phi m c t.val := rfl
  have e2 : (dats (F := F) m 0 c).Φ t.succ = Phi m c (t.val + 1) := rfl
  rw [e1, e2, Finset.univ_eq_empty, bigSep_empty, bigSep_empty]
  show iprop(Phi m c t.val ∗ (dats (F := F) m 0 c).owesAt () t.castSucc ∗ emp) ⊢ wpk c (bodyAt0 (F := F) t) (fun _ => iprop(Phi m c (t.val + 1) ∗ (dats (F := F) m 0 c).owesAt () t.succ ∗ emp))
  unfold Dat.owesAt Pipeline.owesWithin
  refine BIBase.Entails.trans ?_ ((sound_body m c t).trans (wp_mono _ _ _ fun _ => ?_))
  · iintro ⟨HPhi, ⟨%W, %hW, HO⟩, -⟩
    isplitl [HPhi]; · iexact HPhi
    unfold owesE; iexists W; iexact HO
  · unfold owesE
    iintro ⟨HPhi, %W, HO⟩
    isplitl [HPhi]; · iexact HPhi
    isplitl [HO]
    · iexists W
      isplitr; · ipureintro; exact fun _ _ => Or.inl trivial
      iexact HO
    iempintro

end Cert.AttnProof

end
-- ==== Proof.Slabs.lean ====
module
public import proofs.«01_k».proof.Proof.Phase1
@[expose] public section
noncomputable section
namespace Cert.AttnProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
variable {F : FTy → Type} [FloatOps F]
local notation "𝕄" => MT nD τ sig Unit (Elt F) ℕ UU ℕ

variable (m : (ℓ : Loc nD τ sig) → Buf (Elt F) ℓ) (ρ : Dev nD → PrngReg)

variable (c : Dev nD)

/-! ## A buffer and its heads -/

section
variable {T : Type} [Fintype T] [DecidableEq T] {sp : Space} {s : Shape} {e : EltTy} (M : Memref sig .tc sp s e) (r : T → Rect s) (hr : ∀ t a, (r t).stride a = 1)
  (f : s.Idx → T) (hf : ∀ t x, x ∈ (r t).set ↔ f x = t)
include hf

theorem rects_disj (t t' : T) (h : t ≠ t') : Disjoint (r t).set (r t').set :=
  Finset.disjoint_left.mpr fun x h1 h2 => h (((hf t x).mp h1).symm.trans ((hf t' x).mp h2))
theorem rects_cov : (Finset.univ : Finset T).biUnion (fun t => (r t).set) = Finset.univ :=
  Finset.eq_univ_iff_forall.mpr fun x => Finset.mem_biUnion.mpr ⟨f x, Finset.mem_univ _, (hf _ x).mpr rfl⟩
/-- Contents given part by part are the parts of one. -/
theorem rects_glue {α : Type} (X : (t : T) → (r t).shape.Idx → α) : ∃ Y : s.Idx → α, ∀ t, X t = fun j => Y ((r t).emb j) := by
  have ex (x : s.Idx) : ∃ j, (r (f x)).emb j = x := by
    have := (hf (f x) x).mpr rfl
    rw [← Rect.map_emb_univ, Finset.mem_map] at this
    obtain ⟨j, -, hj⟩ := this; exact ⟨j, hj⟩
  refine ⟨fun x => X (f x) (Classical.choose (ex x)), fun t => funext fun j => ?_⟩
  have key (x : s.Idx) (hx : (r t).emb j = x) : X t j = X (f x) (Classical.choose (ex x)) := by
    have ht : f x = t := (hf t x).mp (by rw [← hx, ← Rect.map_emb_univ]; exact Finset.mem_map_of_mem _ (Finset.mem_univ _))
    subst ht
    congr 1
    exact (r (f x)).emb.injective (hx.trans (Classical.choose_spec (ex x)).symm)
  exact key _ rfl
/-- A buffer owned whole is each of its parts, whatever they hold; -/
theorem some_split (X : s.Idx → Elt F e) : (ownsTc c M fullShare X : sProp 𝕄) ⊢ bigSep Finset.univ fun t => some1 (F := F) c (M.slice (r t) (hr t)) :=
  (owns_rects (c : Thread nD τ) M fullShare r hr (rects_disj r f hf) (rects_cov r f hf) X).trans (bigSep_mono fun t _ => some1_intro c _ _)
/-- and back. -/
theorem some_join : (bigSep Finset.univ fun t => some1 (F := F) c (M.slice (r t) (hr t))) ⊢ some1 (F := F) c M := by
  have one (X : (t : T) → (r t).shape.Idx → Elt F e) : (bigSep Finset.univ fun t => (ownsTc c (M.slice (r t) (hr t)) fullShare (X t) : sProp 𝕄)) ⊢ some1 (F := F) c M := by
    obtain ⟨Y, hY⟩ := rects_glue r f hf X
    rw [show X = fun t j => Y ((r t).emb j) from funext hY]
    exact (owns_of_rects (c : Thread nD τ) M fullShare r hr (rects_disj r f hf) (rects_cov r f hf) Y).trans (some1_intro c M Y)
  iintro H
  ihave H := (BI.bigSep_exists_pi Finset.univ (fun (t : T) (X : (r t).shape.Idx → Elt F e) => (ownsTc c (M.slice (r t) (hr t)) fullShare X : sProp 𝕄))) $$ H
  icases H with ⟨%X, H⟩
  iapply (one X)
  iexact H
end

def hd4 (x : S1x1024x16x128.Idx) : Fin 16 := ⟨(x 2).val, (x 2).isLt⟩
def hd3 (x : S16x1024x128.Idx) : Fin 16 := ⟨(x 0).val, (x 0).isLt⟩
def hd1 (x : S16x1024x1.Idx) : Fin 16 := ⟨(x 0).val, (x 0).isLt⟩
def hd2 (x : S2x1024x128.Idx) : Fin 2 := ⟨(x 0).val, (x 0).isLt⟩

theorem mem_col (h : Fin 16) (x : S1x1024x16x128.Idx) : x ∈ (colR h).set ↔ hd4 x = h := by
  rw [Rect.mem_set_unit]
  constructor
  · intro H; have := H 2
    exact Fin.ext (by show (x 2).val = h.val; have h1 : h.val ≤ (x 2).val ∧ (x 2).val < h.val + 1 := this; omega)
  · rintro rfl a
    have h0 := (x 0).isLt; have h1 := (x 1).isLt; have h3 := (x 3).isLt
    fin_cases a
    · exact ⟨Nat.zero_le _, h0.trans_eq (Nat.zero_add _).symm⟩
    · exact ⟨Nat.zero_le _, h1.trans_eq (Nat.zero_add _).symm⟩
    · exact ⟨le_rfl, Nat.lt_succ_self _⟩
    · exact ⟨Nat.zero_le _, h3.trans_eq (Nat.zero_add _).symm⟩
theorem mem_slab (h : Fin 16) (x : S16x1024x128.Idx) : x ∈ (slabR h).set ↔ hd3 x = h := by
  rw [Rect.mem_set_unit]
  constructor
  · intro H; have := H 0
    exact Fin.ext (by show (x 0).val = h.val; have h1 : h.val ≤ (x 0).val ∧ (x 0).val < h.val + 1 := this; omega)
  · rintro rfl a
    have h1 := (x 1).isLt; have h2 := (x 2).isLt
    fin_cases a
    · exact ⟨le_rfl, Nat.lt_succ_self _⟩
    · exact ⟨Nat.zero_le _, h1.trans_eq (Nat.zero_add _).symm⟩
    · exact ⟨Nat.zero_le _, h2.trans_eq (Nat.zero_add _).symm⟩
theorem mem_lslab (h : Fin 16) (x : S16x1024x1.Idx) : x ∈ (lslabR h).set ↔ hd1 x = h := by
  rw [Rect.mem_set_unit]
  constructor
  · intro H; have := H 0
    exact Fin.ext (by show (x 0).val = h.val; have h1 : h.val ≤ (x 0).val ∧ (x 0).val < h.val + 1 := this; omega)
  · rintro rfl a
    have h1 := (x 1).isLt; have h2 := (x 2).isLt
    fin_cases a
    · exact ⟨le_rfl, Nat.lt_succ_self _⟩
    · exact ⟨Nat.zero_le _, h1.trans_eq (Nat.zero_add _).symm⟩
    · exact ⟨Nat.zero_le _, h2.trans_eq (Nat.zero_add _).symm⟩
theorem mem_slot (h : Fin 2) (x : S2x1024x128.Idx) : x ∈ (slotR h).set ↔ hd2 x = h := by
  rw [Rect.mem_set_unit]
  constructor
  · intro H; have := H 0
    exact Fin.ext (by show (x 0).val = h.val; have h1 : h.val ≤ (x 0).val ∧ (x 0).val < h.val + 1 := this; omega)
  · rintro rfl a
    have h1 := (x 1).isLt; have h2 := (x 2).isLt
    fin_cases a
    · exact ⟨le_rfl, Nat.lt_succ_self _⟩
    · exact ⟨Nat.zero_le _, h1.trans_eq (Nat.zero_add _).symm⟩
    · exact ⟨Nat.zero_le _, h2.trans_eq (Nat.zero_add _).symm⟩

section
variable {sp : Space}
/-- An operand, head by head, -/
theorem cols_split (M : Memref sig .tc .hbm S1x1024x16x128 .f32) (A : S1x1024x16x128.Idx → Elt F .f32) :
    (ownsTc c M fullShare A : sProp 𝕄) ⊢ bigSep Finset.univ fun h : Fin 16 => ownsTc c (col M h) fullShare (colOf A h) :=
  owns_rects (c : Thread nD τ) M fullShare colR (fun _ _ => rfl) (rects_disj colR hd4 mem_col) (rects_cov colR hd4 mem_col) A
/-- and back. -/
theorem cols_join (M : Memref sig .tc .hbm S1x1024x16x128 .f32) (A : S1x1024x16x128.Idx → Elt F .f32) :
    (bigSep Finset.univ fun h : Fin 16 => ownsTc c (col M h) fullShare (colOf A h)) ⊢ (ownsTc c M fullShare A : sProp 𝕄) :=
  owns_of_rects (c : Thread nD τ) M fullShare colR (fun _ _ => rfl) (rects_disj colR hd4 mem_col) (rects_cov colR hd4 mem_col) A
end

/-- A place of one head, from a place of an operand. -/
def inCol (x : S1x1024x16x128.Idx) : S1x1024x1x128.Idx := fun a => match a with
  | ⟨0, _⟩ => ⟨(x 0).val, (x 0).isLt⟩
  | ⟨1, _⟩ => ⟨(x 1).val, (x 1).isLt⟩
  | ⟨2, _⟩ => ⟨0, Nat.one_pos⟩
  | ⟨3, _⟩ => ⟨(x 3).val, (x 3).isLt⟩
/-- A device's result. -/
def outOf (x : S1x1024x16x128.Idx) : Elt F .f32 := OC m c (hd4 x) (inCol x)

theorem emb_hd4 (h : Fin 16) (j : S1x1024x1x128.Idx) : hd4 ((colR h).emb j) = h := (mem_col h _).mp (by rw [← Rect.map_emb_univ]; exact Finset.mem_map_of_mem _ (Finset.mem_univ _))
theorem emb_inCol (h : Fin 16) (j : S1x1024x1x128.Idx) : inCol ((colR h).emb j) = j := by
  have h2 : (j 2).val < 1 := (j 2).isLt
  funext a
  apply Fin.ext
  fin_cases a
  · show ((colR h).emb j 0).val = (j 0).val
    rw [Rect.emb_apply]; show 0 + 1 * (j 0).val = _; omega
  · show ((colR h).emb j 1).val = (j 1).val
    rw [Rect.emb_apply]; show 0 + 1 * (j 1).val = _; omega
  · show 0 = (j 2).val; omega
  · show ((colR h).emb j 3).val = (j 3).val
    rw [Rect.emb_apply]; show 0 + 1 * (j 3).val = _; omega
theorem OC_eq (h : Fin 16) : OC m c h = colOf (outOf m c) h := funext fun j => by
  unfold colOf outOf; rw [emb_hd4, emb_inCol]

end Cert.AttnProof

end
-- ==== Proof.Ghost.lean ====
module
public import proofs.«01_k».proof.Proof.States
@[expose] public section
noncomputable section
namespace Cert.AttnProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
variable {F : FTy → Type} [FloatOps F]
local notation "𝕄" => MT nD τ sig Unit (Elt F) ℕ UU ℕ

variable (m : (ℓ : Loc nD τ sig) → Buf (Elt F) ℓ) (ρ : Dev nD → PrngReg)

variable (c : Dev nD)

/-! ## The semaphores the kernel owns -/

/-- The kernel's own semaphores: those of the loads, of the stores, of the transfers. -/
abbrev OK : Type := (Fin 2 × Fin 3) ⊕ (Fin 2 ⊕ (Fin 4 × Fin 16))
abbrev osem : OK → SemLoc sig := fun
  | .inl (s, a) => .dma (ldS s a)
  | .inr (.inl s) => .dma (stS s)
  | .inr (.inr (a, h)) => .dma (xS a h)

theorem osem_inj : Function.Injective osem := by
  have hd {x y : OK} (e : osem x = osem y) : (match osem x with | .dma s => s.val | _ => 0) = (match osem y with | .dma s => s.val | _ => 0) := by rw [e]
  rintro (⟨s, a⟩ | s | ⟨a, h⟩) (⟨s', a'⟩ | s' | ⟨a', h'⟩) e <;> have e' := hd e
  · have e' : 3 * s.val + a.val = 3 * s'.val + a'.val := e'
    have h1 : s = s' := Fin.ext (by omega)
    have h2 : a = a' := Fin.ext (by omega)
    rw [h1, h2]
  · have e' : 3 * s.val + a.val = 6 + s'.val := e'
    omega
  · have e' : 3 * s.val + a.val = 8 + 16 * a'.val + h'.val := e'
    omega
  · have e' : 6 + s.val = 3 * s'.val + a'.val := e'
    omega
  · have e' : 6 + s.val = 6 + s'.val := e'
    have h1 : s = s' := Fin.ext (by omega)
    rw [h1]
  · have e' : 6 + s.val = 8 + 16 * a'.val + h'.val := e'
    omega
  · have e' : 8 + 16 * a.val + h.val = 3 * s'.val + a'.val := e'
    omega
  · have e' : 8 + 16 * a.val + h.val = 6 + s'.val := e'
    omega
  · have e' : 8 + 16 * a.val + h.val = 8 + 16 * a'.val + h'.val := e'
    have h1 : a = a' := Fin.ext (by omega)
    have h2 : h = h' := Fin.ext (by omega)
    rw [h1, h2]
theorem ownSemFacts : Pipeline.OwnSemFacts cfg0.spec osem := ⟨by decide, osem_inj, fun _ w => w.elim0⟩

theorem kcell_inj : Function.Injective (kcell : Dev nD × KI → GSem nD τ sig) := by
  rintro ⟨c, k⟩ ⟨c', k'⟩ h
  have h1 : c = c' := by have := congrArg (fun g : GSem nD τ sig => g.1.1) h; exact this
  subst h1
  have h2 : csem k = csem k' := congrArg Prod.snd h
  rcases k with _ | ⟨a, x⟩ <;> rcases k' with _ | ⟨a', x'⟩
  · rfl
  · cases h2
  · cases h2
  · obtain ⟨rfl, rfl⟩ := xS_inj (SemLoc.dma.inj h2); rfl

/-- Every cell of the exchange, -/
def xcells : Finset (GSem nD τ sig) := Finset.univ.map ⟨kcell, kcell_inj⟩
/-- and the one duty of each. -/
def tokOf (ck : Dev nD × KI) : GSem nD τ sig × ℕ × Unit := (kcell ck, 0, ())
theorem tokOf_inj : Function.Injective tokOf := fun _ _ e => kcell_inj (congrArg Prod.fst e)
def xtoks : Finset (GSem nD τ sig × ℕ × Unit) := Finset.univ.map ⟨tokOf, tokOf_inj⟩

/-- The ghost element of the launch: the pipeline's cells, the exchange's, the local copies' counters. -/
def u₀ : UU := (initOf (Pipeline.cells cfgs cellOf_inj) (Pipeline.launchToks cfgs cellOf_inj), (initOf xcells xtoks, (1 : Counters)))

section Parts
omit [FloatOps F]

theorem big4 (Φ : Fin 4 → sProp 𝕄) : bigSep Finset.univ Φ = iprop(Φ 0 ∗ Φ 1 ∗ Φ 2 ∗ Φ 3) := bigSep_univ_eq_bigSepL [0, 1, 2, 3] (by decide) (by decide) Φ
theorem big3 (Φ : Fin 3 → sProp 𝕄) : bigSep Finset.univ Φ = iprop(Φ 0 ∗ Φ 1 ∗ Φ 2) := bigSep_univ_eq_bigSepL [0, 1, 2] (by decide) (by decide) Φ
theorem big2 (Φ : Fin 2 → sProp 𝕄) : bigSep Finset.univ Φ = iprop(Φ 0 ∗ Φ 1) := bigSep_univ_eq_bigSepL [0, 1] (by decide) (by decide) Φ
/-- Over the semaphores of the transfers, head by head; -/
theorem bigX (Φ : Fin 4 × Fin 16 → sProp 𝕄) : bigSep Finset.univ Φ = bigSep Finset.univ fun h : Fin 16 => iprop(Φ (0, h) ∗ Φ (1, h) ∗ Φ (2, h) ∗ Φ (3, h)) := by
  rw [bigSep_univ_prod, big4, bigSep_sep', bigSep_sep', bigSep_sep']
/-- over a device's cells, its barrier's first. -/
theorem bigK (Φ : KI → sProp 𝕄) : bigSep Finset.univ Φ = iprop(bigSep Finset.univ (fun x => Φ (some x)) ∗ Φ none) := by
  rw [bigSep_univ_equiv (Equiv.optionEquivSumPUnit.{0} (Fin 4 × Fin 16)).symm Φ, bigSep_univ_sum, bigSep_univ_of_subsingleton PUnit.unit]
  rfl

/-- The semaphores of the loads and the stores at zero. -/
def lsems : sProp 𝕄 :=
  iprop(((semVal ((c : Thread nD τ), .dma (ldS 0 0)) 0 ∗ semVal ((c : Thread nD τ), .dma (ldS 0 1)) 0 ∗ semVal ((c : Thread nD τ), .dma (ldS 0 2)) 0)
      ∗ (semVal ((c : Thread nD τ), .dma (ldS 1 0)) 0 ∗ semVal ((c : Thread nD τ), .dma (ldS 1 1)) 0 ∗ semVal ((c : Thread nD τ), .dma (ldS 1 2)) 0))
    ∗ (semVal ((c : Thread nD τ), .dma (stS 0)) 0 ∗ semVal ((c : Thread nD τ), .dma (stS 1)) 0))

theorem ownSems0_eq : (Pipeline.ownSems0 (Ix := Unit) (Name := ℕ) (U := UU) (Lvl := ℕ) (Val := Elt F) (τ := τ) osem c : sProp 𝕄)
    = iprop(((bigSep Finset.univ fun s : Fin 2 => bigSep Finset.univ fun a : Fin 3 => semVal ((c : Thread nD τ), .dma (ldS s a)) 0) ∗ ((bigSep Finset.univ fun s : Fin 2 => semVal ((c : Thread nD τ), .dma (stS s)) 0)
        ∗ bigSep Finset.univ fun x : Fin 4 × Fin 16 => semVal (xCell c x.1 x.2) 0))) := by
  unfold Pipeline.ownSems0
  rw [bigSep_univ_sum, bigSep_univ_sum, bigSep_univ_prod]; rfl
theorem loads_eq : ((bigSep Finset.univ fun s : Fin 2 => bigSep Finset.univ fun a : Fin 3 => semVal ((c : Thread nD τ), .dma (ldS s a)) 0 : sProp 𝕄))
    = iprop((semVal ((c : Thread nD τ), .dma (ldS 0 0)) 0 ∗ semVal ((c : Thread nD τ), .dma (ldS 0 1)) 0 ∗ semVal ((c : Thread nD τ), .dma (ldS 0 2)) 0)
      ∗ (semVal ((c : Thread nD τ), .dma (ldS 1 0)) 0 ∗ semVal ((c : Thread nD τ), .dma (ldS 1 1)) 0 ∗ semVal ((c : Thread nD τ), .dma (ldS 1 2)) 0)) := by
  rw [big2, big3, big3]
theorem unscopedSems0_eq : (unscopedSems0 c : sProp 𝕄) = semVal (barCell c) 0 := by
  unfold unscopedSems0; rw [bigSep_eq_bigSepL_of_eq [SemLoc.reg barS] (by decide) (by decide)]; rfl

end Parts

/-! ## The cells opened, and their duties dealt -/

/-- The device that pays cell `k` of device `c`. -/
def payer (k : KI) (c : Dev nD) : Dev nD := match k with
  | none => peer c
  | some (a, _) => if 2 ≤ a.val then peer c else c
theorem payer_payer (k : KI) (c : Dev nD) : payer k (payer k c) = c := by
  rcases k with _ | ⟨a, x⟩
  · exact peer_peer c
  · show (if 2 ≤ a.val then peer (if 2 ≤ a.val then peer c else c) else (if 2 ≤ a.val then peer c else c)) = c
    split
    · exact peer_peer c
    · rfl
def payE : Dev nD × KI ≃ Dev nD × KI where
  toFun ck := (payer ck.2 ck.1, ck.2)
  invFun ck := (payer ck.2 ck.1, ck.2)
  left_inv ck := Prod.ext (payer_payer _ _) rfl
  right_inv ck := Prod.ext (payer_payer _ _) rfl

/-- The duties a device pays. -/
def pays : sProp 𝕄 := bigSep Finset.univ fun k : KI => dutyTok ER (kcell (payer k c, k)) 0 ()
/-- Its positions at its cells. -/
def ats : sProp 𝕄 := bigSep Finset.univ fun k : KI => atPos ER (kcell (c, k)) 0 ∅ 0
/-- What the launch element deals a device. -/
def G : sProp 𝕄 :=
  iprop((bigSep Finset.univ fun k : KI => roundState ER (Rd m) (kcell (c, k)) 0) ∗ ats (F := F) c ∗ (bigSep Finset.univ fun k : KI => reached ER (kcell (c, k)) 0) ∗ pays (F := F) c)
/-- What becomes of it once every cell is open. -/
def G' : sProp 𝕄 := iprop((∃ K, recs m K) ∗ (ats (F := F) c ∗ pays (F := F) c) ∗ lsems (F := F) c)

theorem fund : BI.own (ER (initOf xcells xtoks)) ⊢ (|==> bigSep Finset.univ (G m) : sProp 𝕄) := by
  have hX (Φ : GSem nD τ sig → sProp 𝕄) : bigSep xcells Φ = bigSep Finset.univ fun c : Dev nD => bigSep Finset.univ fun k : KI => Φ (kcell (c, k)) := by
    unfold xcells; rw [bigSep_map, bigSep_univ_prod]; rfl
  have hT : bigSep xtoks (fun x => (dutyTok ER x.1 x.2.1 x.2.2 : sProp 𝕄)) = bigSep Finset.univ fun c : Dev nD => pays c := by
    unfold xtoks; rw [bigSep_map, bigSep_univ_equiv payE, bigSep_univ_prod]; rfl
  iintro HX
  imod (Rounds.fund ER (Rd m) xcells xtoks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · unfold ats; iexact Hat'
  isplitl [Hr']; · iexact Hr'
  iexact Htok'

/-- A device's cells opened. -/
theorem core_open : iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KI => iprop(∃ κ : ℕ, cellInv ER (Rd m) κ (kcell (c, k))))
          ∗ (bigSep Finset.univ fun k : KI => (reached ER (kcell (c, k)) 0 : sProp 𝕄)) ∗ (ats (F := F) c ∗ pays (F := F) c) ∗ lsems (F := F) c) := by
  have hopen : iprop((bigSep Finset.univ fun k : KI => semVal (kcell (c, k)) 0) ∗ bigSep Finset.univ fun k : KI => roundState ER (Rd m) (kcell (c, k)) 0)
      ⊢ (|={Set.univ}=> bigSep Finset.univ fun k : KI => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  have hsem : iprop((bigSep Finset.univ fun x : Fin 4 × Fin 16 => semVal (xCell c x.1 x.2) 0) ∗ semVal (barCell c) 0) ⊢ (bigSep Finset.univ fun k : KI => semVal (kcell (c, k)) 0 : sProp 𝕄) :=
    Entails.of_eq (bigK (fun k : KI => (semVal (kcell (c, k)) 0 : sProp 𝕄))).symm
  rw [ownSems0_eq, unscopedSems0_eq, loads_eq, big2]
  unfold G lsems
  iintro ⟨⟨HL, HS, HX⟩, HB, Hst, Hat, Hr, Htok⟩
  ihave Hv := hsem $$ [HX HB]
  · isplitl [HX]; · iexact HX
    iexact HB
  imod hopen $$ [Hv Hst] with Hinv
  · isplitl [Hv]; · iexact Hv
    iexact Hst
  imodintro
  isplitl [Hinv]; · iexact Hinv
  isplitl [Hr]; · iexact Hr
  isplitl [Hat Htok]
  · isplitl [Hat]; · iexact Hat
    iexact Htok
  isplitl [HL]; · iexact HL
  iexact HS

/-- What persists goes to every device. -/
theorem share_out {R : sProp 𝕄} [BI.Persistent R] (Φ : Dev nD → sProp 𝕄) : iprop(R ∗ bigSep Finset.univ Φ) ⊢ bigSep Finset.univ fun c => iprop(R ∗ Φ c) := by
  rw [bigSep_sep']
  exact sep_mono_left (BI.bigSep_of_persistent Finset.univ R)

theorem regroup :
    (bigSep Finset.univ fun c : Dev nD => iprop((bigSep Finset.univ fun k : KI => iprop(∃ κ : ℕ, cellInv ER (Rd m) κ (kcell (c, k))))
          ∗ (bigSep Finset.univ fun k : KI => (reached ER (kcell (c, k)) 0 : sProp 𝕄)) ∗ (ats (F := F) c ∗ pays (F := F) c) ∗ lsems (F := F) c))
      ⊢ bigSep Finset.univ (G' m) := by
  have hrec (K : Dev nD × KI → ℕ) : iprop((bigSep Finset.univ fun ck : Dev nD × KI => (cellInv ER (Rd m) (K ck) (kcell ck) : sProp 𝕄)) ∗ bigSep Finset.univ fun ck : Dev nD × KI => reached ER (kcell ck) 0) ⊢ recs m K := by
    unfold recs; rw [bigSep_sep']
  have hone (K : Dev nD × KI → ℕ) (c : Dev nD) : iprop(recs m K ∗ (ats (F := F) c ∗ pays (F := F) c) ∗ lsems (F := F) c) ⊢ G' m c := by
    unfold G'
    iintro ⟨HK, H⟩
    isplitl [HK]; · iexists K; iexact HK
    iexact H
  rw [bigSep_sep', bigSep_sep', ← bigSep_univ_prod (fun ck : Dev nD × KI => iprop(∃ κ : ℕ, cellInv ER (Rd m) κ (kcell ck))),
    ← bigSep_univ_prod (fun ck : Dev nD × KI => (reached ER (kcell ck) 0 : sProp 𝕄))]
  iintro ⟨HI, HR, Hl⟩
  ihave HK := (BI.bigSep_exists_pi Finset.univ (fun (ck : Dev nD × KI) (κ : ℕ) => (cellInv ER (Rd m) κ (kcell ck) : sProp 𝕄))) $$ HI
  icases HK with ⟨%K, HI⟩
  iapply ((share_out (R := recs m K) _).trans (bigSep_mono fun c _ => hone K c))
  isplitl [HI HR]
  · iapply (hrec K)
    isplitl [HI]; · iexact HI
    iexact HR
  iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_open m c).trans (bigSep_fupd _ _)).trans (BI.fupd_mono (regroup m))

/-! ## The launch's credits -/

/-- What every device owes one semaphore of its peer, every device is owed at its own. -/
theorem cred_peer (sm : SemLoc sig) (n : ℕ) : (Pipeline.launchCred (fun d : Dev nD => (tallyAt ((peer d : Thread nD τ), sm) () n : CellTallies nD τ sig Unit)) c : sProp 𝕄) ⊢ cred (tallyAt ((c : Thread nD τ), sm) () n) := by
  refine (Pipeline.launchCred_elim _ c sm).trans (Entails.of_eq (congrArg cred ?_))
  unfold tallyAt
  refine congrArg _ (Finsupp.ext fun u => ?_)
  cases u
  rw [Pipeline.launchCredit_owing, Finsupp.single_eq_same]
  have h (d : Dev nD) : (tallyAt ((peer d : Thread nD τ), sm) () n : CellTallies nD τ sig Unit) ((c : Thread nD τ), sm) () = if d = peer c then n else 0 := by
    rw [tallyAt_apply]
    by_cases hd : d = peer c
    · subst hd; rw [peer_peer, if_pos ⟨rfl, rfl⟩, if_pos rfl]
    · rw [if_neg hd, if_neg]
      rintro ⟨h1, -⟩
      have h2 : c = peer d := congrArg (fun g : GSem nD τ sig => g.1.1) h1
      exact hd (by rw [h2, peer_peer])
  exact (Finset.sum_congr rfl fun d _ => h d).trans ((Finset.sum_ite_eq' Finset.univ (peer c) fun _ => n).trans (if_pos (Finset.mem_univ _)))

theorem creds : (Pipeline.launchCred O₀ c : sProp 𝕄) ⊢ iprop((bigSep Finset.univ fun h : Fin 16 => rcrs (F := F) c h) ∗ cred (tallyAt (barCell c) () 1)) := by
  have e : (O₀ : Dev nD → CellTallies nD τ sig Unit) = fun d => (∑ h : Fin 16, (tallyAt (xCell (peer d) 3 h) () NX + tallyAt (xCell (peer d) 2 h) () NX)) + tallyAt (barCell (peer d)) () 1 := by
    funext d; unfold O₀ Orem
    rw [Finset.sum_congr rfl fun (h : Fin 16) _ => if_pos (Nat.zero_le h.val)]
  have hr (h : Fin 16) : (iprop(Pipeline.launchCred (fun d : Dev nD => tallyAt (xCell (peer d) 3 h) () NX) c ∗ Pipeline.launchCred (fun d : Dev nD => tallyAt (xCell (peer d) 2 h) () NX) c) : sProp 𝕄) ⊢ rcrs (F := F) c h := by
    unfold rcrs
    iintro ⟨H3, H2⟩
    isplitl [H2]
    · iapply (cred_peer (F := F) c _ _); iexact H2
    · iapply (cred_peer (F := F) c _ _); iexact H3
  rw [e, Pipeline.launchCred_add (fun d : Dev nD => ∑ h : Fin 16, (tallyAt (xCell (peer d) 3 h) () NX + tallyAt (xCell (peer d) 2 h) () NX)) (fun d => tallyAt (barCell (peer d)) () 1),
    Pipeline.launchCred_sum Finset.univ (fun (h : Fin 16) (d : Dev nD) => (tallyAt (xCell (peer d) 3 h) () NX + tallyAt (xCell (peer d) 2 h) () NX))]
  refine BIClass.sep_mono (bigSep_mono fun h _ => ?_) (cred_peer c _ _)
  rw [Pipeline.launchCred_add (fun d : Dev nD => tallyAt (xCell (peer d) 3 h) () NX) (fun d => tallyAt (xCell (peer d) 2 h) () NX)]
  exact hr h

end Cert.AttnProof

end
-- ==== Proof.Launch.lean ====
module
public import proofs.«01_k».proof.Proof.Body
public import proofs.«01_k».proof.Proof.Slabs
public import proofs.«01_k».proof.Proof.Ghost
public import Idealize.ShloMosaic.Lib.Pipeline.CollectiveSegs
@[expose] public section
noncomputable section
namespace Cert.AttnProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
variable {F : FTy → Type} [FloatOps F]
local notation "𝕄" => MT nD τ sig Unit (Elt F) ℕ UU ℕ

variable (m : (ℓ : Loc nD τ sig) → Buf (Elt F) ℓ) (ρ : Dev nD → PrngReg)

variable (c : Dev nD)

/-! ## Into the first point -/

theorem ats_deal : ats (F := F) c ⊢ iprop((bigSep Finset.univ fun h : Fin 16 => poss (F := F) c h) ∗ atPos ER (barCell c) 0 ∅ 0) := by
  have h1 : ats (F := F) c = iprop((bigSep Finset.univ fun h : Fin 16 => iprop(atPos ER (xCell c 0 h) 0 ∅ 0 ∗ atPos ER (xCell c 1 h) 0 ∅ 0 ∗ atPos ER (xCell c 2 h) 0 ∅ 0 ∗ atPos ER (xCell c 3 h) 0 ∅ 0)) ∗ atPos ER (barCell c) 0 ∅ 0) := by
    unfold ats; rw [bigK, bigX]
  rw [h1]
  refine BIClass.sep_mono (bigSep_mono fun h _ => ?_) (BI.Entails.refl _)
  have hr : (iprop(atPos ER (xCell c 0 h) 0 ∅ 0 ∗ atPos ER (xCell c 1 h) 0 ∅ 0 ∗ atPos ER (xCell c 2 h) 0 ∅ 0 ∗ atPos ER (xCell c 3 h) 0 ∅ 0) : sProp 𝕄) ⊢ poss (F := F) c h := by
    unfold poss
    iintro ⟨H0, H1, H2, H3⟩
    isplitl [H0]; · iexact H0
    isplitl [H2]; · iexact H2
    isplitl [H1]; · iexact H1
    iexact H3
  exact hr
theorem pays_deal : pays (F := F) c ⊢ iprop((bigSep Finset.univ fun h : Fin 16 => toks (F := F) c h) ∗ dutyTok ER (barCell (peer c)) 0 ()) := by
  have h1 : pays (F := F) c = iprop((bigSep Finset.univ fun h : Fin 16 => iprop(dutyTok ER (xCell c 0 h) 0 () ∗ dutyTok ER (xCell c 1 h) 0 () ∗ dutyTok ER (xCell (peer c) 2 h) 0 () ∗ dutyTok ER (xCell (peer c) 3 h) 0 ())) ∗ dutyTok ER (barCell (peer c)) 0 ()) := by
    unfold pays; rw [bigK, bigX]; rfl
  rw [h1]
  refine BIClass.sep_mono (bigSep_mono fun h _ => ?_) (BI.Entails.refl _)
  have hr : (iprop(dutyTok ER (xCell c 0 h) 0 () ∗ dutyTok ER (xCell c 1 h) 0 () ∗ dutyTok ER (xCell (peer c) 2 h) 0 () ∗ dutyTok ER (xCell (peer c) 3 h) 0 ()) : sProp 𝕄) ⊢ toks (F := F) c h := by
    unfold toks
    iintro ⟨H0, H1, H2, H3⟩
    isplitl [H0 H2]
    · isplitl [H0]; · iexact H0
      iexact H2
    · isplitl [H1]; · iexact H1
      iexact H3
  exact hr

/-- A buffer that every head has a part of, part by part, -/
theorem slabs_split {e : EltTy} (M : Memref sig .tc .vmem S16x1024x128 e) : some1 (F := F) c M ⊢ bigSep Finset.univ fun h : Fin 16 => some1 (F := F) c (slab M h) := by
  iintro ⟨%X, H⟩
  iapply (some_split c M slabR (fun _ _ => rfl) hd3 mem_slab X); iexact H
theorem lslabs_split (M : Memref sig .tc .vmem S16x1024x1 .f32) : some1 (F := F) c M ⊢ bigSep Finset.univ fun h : Fin 16 => some1 (F := F) c (lslab M h) := by
  iintro ⟨%X, H⟩
  iapply (some_split c M lslabR (fun _ _ => rfl) hd1 mem_lslab X); iexact H
theorem slots_split (M : Memref sig .tc .vmem S2x1024x128 .f32) : some1 (F := F) c M ⊢ iprop(some1 (F := F) c (slot M 0) ∗ some1 (F := F) c (slot M 1)) := by
  have h := fun X => some_split (F := F) c M slotR (fun _ _ => rfl) hd2 mem_slot X
  simp only [big2] at h
  iintro ⟨%X, H⟩
  iapply (h X); iexact H
theorem outs_split (M : Memref sig .tc .hbm S1x1024x16x128 .f32) : some1 (F := F) c M ⊢ bigSep Finset.univ fun h : Fin 16 => some1 (F := F) c (col M h) := by
  iintro ⟨%X, H⟩
  iapply (some_split c M colR (fun _ _ => rfl) hd4 mem_col X); iexact H
/-- and back. -/
theorem slabs_join {e : EltTy} (M : Memref sig .tc .vmem S16x1024x128 e) : (bigSep Finset.univ fun h : Fin 16 => some1 (F := F) c (slab M h)) ⊢ some1 (F := F) c M :=
  some_join c M slabR (fun _ _ => rfl) hd3 mem_slab
theorem lslabs_join (M : Memref sig .tc .vmem S16x1024x1 .f32) : (bigSep Finset.univ fun h : Fin 16 => some1 (F := F) c (lslab M h)) ⊢ some1 (F := F) c M :=
  some_join c M lslabR (fun _ _ => rfl) hd1 mem_lslab
theorem slots_join (M : Memref sig .tc .vmem S2x1024x128 .f32) : iprop(some1 (F := F) c (slot M 0) ∗ some1 (F := F) c (slot M 1)) ⊢ some1 (F := F) c M := by
  have h := some_join (F := F) c M slotR (fun _ _ => rfl) hd2 mem_slot
  rw [big2] at h
  exact h

/-- What the launch hands a device for the kernel, its scratch apart. -/
def start : sProp 𝕄 :=
  iprop(((∃ K, recs m K) ∗ levAts L lv) ∗ ((ats (F := F) c ∗ pays (F := F) c) ∗ lsems (F := F) c) ∗ ((bigSep Finset.univ fun h : Fin 16 => rcrs (F := F) c h) ∗ cred (tallyAt (barCell c) () 1))
    ∗ (ownsTc c qM fullShare (argQ m c) ∗ ownsTc c kM fullShare (argK m c) ∗ ownsTc c vM fullShare (argV m c) ∗ some1 (F := F) c oM))
/-- The scratch. -/
def scratch : sProp 𝕄 :=
  iprop(some1 (F := F) c qsM ∗ some1 (F := F) c qbM ∗ some1 (F := F) c kbM ∗ some1 (F := F) c vbM ∗ some1 (F := F) c ksM ∗ some1 (F := F) c vsM
    ∗ some1 (F := F) c krM ∗ some1 (F := F) c vrM ∗ some1 (F := F) c oaM ∗ some1 (F := F) c laM ∗ some1 (F := F) c obM)

theorem whole_eq (b : Ref sig .tc) (X : Buf (Elt F) ((c : Thread nD τ).loc b)) : (ownsTc c (Memref.whole b) fullShare X : sProp 𝕄) = (((c : Thread nD τ).loc b) ↦{fullShare} X) := owns_whole (c : Thread nD τ) b fullShare X

theorem scratch_eq : (Pipeline.scopedRest (Ix := Unit) (Name := ℕ) (U := UU) (Lvl := ℕ) (Val := Elt F) cfg0.spec c : sProp 𝕄) = scratch (F := F) c := by
  rw [scopedRest0_eq]
  unfold scratch some1
  simp only [whole_eq]
  rfl

theorem heads_in : iprop(((bigSep Finset.univ fun h : Fin 16 => ownsTc c (col qM h) fullShare (colOf (argQ m c) h)) ∗ (bigSep Finset.univ fun h : Fin 16 => ownsTc c (col kM h) fullShare (colOf (argK m c) h))
      ∗ (bigSep Finset.univ fun h : Fin 16 => ownsTc c (col vM h) fullShare (colOf (argV m c) h)) ∗ (bigSep Finset.univ fun h : Fin 16 => some1 (F := F) c (col oM h)))
    ∗ ((bigSep Finset.univ fun h : Fin 16 => some1 (F := F) c (slab qsM h)) ∗ (bigSep Finset.univ fun h : Fin 16 => some1 (F := F) c (slab oaM h)) ∗ (bigSep Finset.univ fun h : Fin 16 => some1 (F := F) c (lslab laM h)))
    ∗ ((bigSep Finset.univ fun h : Fin 16 => some1 (F := F) c (slab ksM h)) ∗ (bigSep Finset.univ fun h : Fin 16 => some1 (F := F) c (slab vsM h)))
    ∗ (bigSep Finset.univ fun h : Fin 16 => toks (F := F) c h) ∗ (bigSep Finset.univ fun h : Fin 16 => poss (F := F) c h) ∗ (bigSep Finset.univ fun h : Fin 16 => rcrs (F := F) c h))
    ⊢ (bigSep Finset.univ fun h : Fin 16 => iprop(cols m c h ∗ rest0 (F := F) c h) : sProp 𝕄) := by
  unfold cols rest0 locs sends
  simp only [bigSep_sep']
  iintro ⟨⟨Hq, Hk, Hv, Ho⟩, ⟨H1, H2, H3⟩, ⟨H4, H5⟩, Ht, Hp, Hr⟩
  isplitl [Hq Hk Hv]
  · isplitl [Hk]; · iexact Hk
    isplitl [Hv]; · iexact Hv
    iexact Hq
  isplitl [H1 H2 H3]
  · isplitl [H1]; · iexact H1
    isplitl [H2]; · iexact H2
    iexact H3
  isplitl [H4 H5]
  · isplitl [H4]; · iexact H4
    iexact H5
  isplitl [Ho]; · iexact Ho
  isplitl [Ht]; · iexact Ht
  isplitl [Hp]; · iexact Hp
  iexact Hr

/-- What the launch gives is what the first point takes. -/
theorem enter : iprop(start m c ∗ scratch (F := F) c) ⊢ Phi m c 0 := by
  have hland : (iprop((bigSep Finset.univ fun h : Fin 16 => some1 (F := F) c (slab krM h)) ∗ (bigSep Finset.univ fun h : Fin 16 => some1 (F := F) c (slab vrM h))) : sProp 𝕄) ⊢ bigSep Finset.univ fun h : Fin 16 => landing (F := F) c h := by
    unfold landing; rw [bigSep_sep']
  unfold Phi start scratch
  rw [core_0]
  unfold st0 lsems
  iintro ⟨⟨⟨HK, HL⟩, ⟨⟨Hat, Hpay⟩, ⟨⟨⟨Ha0, Ha1, Ha2⟩, ⟨Hb0, Hb1, Hb2⟩⟩, ⟨Hs0, Hs1⟩⟩⟩, ⟨Hrc, Hbc⟩, ⟨Hq, Hk, Hv, Ho⟩⟩, ⟨Hqs, Hqb, Hkb, Hvb, Hks, Hvs, Hkr, Hvr, Hoa, Hla, Hob⟩⟩
  ihave ⟨Hat, Hba⟩ := (ats_deal (F := F) c) $$ Hat
  ihave ⟨Hpay, Hbp⟩ := (pays_deal (F := F) c) $$ Hpay
  ihave ⟨Hq0, Hq1⟩ := (slots_split (F := F) c qbM) $$ Hqb
  ihave ⟨Hk0, Hk1⟩ := (slots_split (F := F) c kbM) $$ Hkb
  ihave ⟨Hv0, Hv1⟩ := (slots_split (F := F) c vbM) $$ Hvb
  ihave ⟨Ho0, Ho1⟩ := (slots_split (F := F) c obM) $$ Hob
  isplitl [HK HL]
  · icases HK with ⟨%K, HK⟩
    iexists K
    isplitl [HK]; · iexact HK
    iexact HL
  isplitl [Hat Hpay Hrc Hq Hk Hv Ho Hqs Hks Hvs Hoa Hla]
  · iapply (heads_in m c)
    isplitl [Hq Hk Hv Ho]
    · isplitl [Hq]; · iapply (cols_split c qM (argQ m c)); iexact Hq
      isplitl [Hk]; · iapply (cols_split c kM (argK m c)); iexact Hk
      isplitl [Hv]; · iapply (cols_split c vM (argV m c)); iexact Hv
      iapply (outs_split (F := F) c oM); iexact Ho
    isplitl [Hqs Hoa Hla]
    · isplitl [Hqs]; · iapply (slabs_split (F := F) c qsM); iexact Hqs
      isplitl [Hoa]; · iapply (slabs_split (F := F) c oaM); iexact Hoa
      iapply (lslabs_split (F := F) c laM); iexact Hla
    isplitl [Hks Hvs]
    · isplitl [Hks]; · iapply (slabs_split (F := F) c ksM); iexact Hks
      iapply (slabs_split (F := F) c vsM); iexact Hvs
    isplitl [Hpay]; · iexact Hpay
    isplitl [Hat]; · iexact Hat
    iexact Hrc
  isplitl [Ha0 Ha1 Ha2 Hb0 Hb1 Hb2 Hq0 Hq1 Hk0 Hk1 Hv0 Hv1]
  · unfold lfree
    isplitl [Ha0 Ha1 Ha2 Hq0 Hk0 Hv0]
    · isplitl [Hk0 Ha0]
      · isplitl [Hk0]; · iexact Hk0
        iexact Ha0
      isplitl [Hv0 Ha1]
      · isplitl [Hv0]; · iexact Hv0
        iexact Ha1
      isplitl [Hq0]; · iexact Hq0
      iexact Ha2
    · isplitl [Hk1 Hb0]
      · isplitl [Hk1]; · iexact Hk1
        iexact Hb0
      isplitl [Hv1 Hb1]
      · isplitl [Hv1]; · iexact Hv1
        iexact Hb1
      isplitl [Hq1]; · iexact Hq1
      iexact Hb2
  isplitl [Hs0 Hs1 Ho0 Ho1]
  · unfold sfree
    isplitl [Ho0 Hs0]
    · isplitl [Ho0]; · iexact Ho0
      iexact Hs0
    · isplitl [Ho1]; · iexact Ho1
      iexact Hs1
  isplitl [Hkr Hvr]
  · iapply hland
    isplitl [Hkr]; · iapply (slabs_split (F := F) c krM); iexact Hkr
    iapply (slabs_split (F := F) c vrM); iexact Hvr
  isplitl [Hbp]; · iexact Hbp
  isplitl [Hba]; · iexact Hba
  iexact Hbc

/-! ## Out of the last point -/

/-- What a device holds when the kernel is done, its scratch and its own semaphores apart. -/
def final : sProp 𝕄 :=
  iprop(unscopedSems0 c ∗ ownsTc c qM fullShare (argQ m c) ∗ ownsTc c kM fullShare (argK m c) ∗ ownsTc c vM fullShare (argV m c) ∗ ownsTc c oM fullShare (outOf m c))

theorem heads_out : (bigSep Finset.univ fun h : Fin 16 => HE m c h : sProp 𝕄)
    ⊢ iprop(((bigSep Finset.univ fun h : Fin 16 => ownsTc c (col qM h) fullShare (colOf (argQ m c) h)) ∗ (bigSep Finset.univ fun h : Fin 16 => ownsTc c (col kM h) fullShare (colOf (argK m c) h))
      ∗ (bigSep Finset.univ fun h : Fin 16 => ownsTc c (col vM h) fullShare (colOf (argV m c) h)) ∗ (bigSep Finset.univ fun h : Fin 16 => ownsTc c (col oM h) fullShare (colOf (outOf m c) h)))
    ∗ ((bigSep Finset.univ fun h : Fin 16 => some1 (F := F) c (slab qsM h)) ∗ (bigSep Finset.univ fun h : Fin 16 => some1 (F := F) c (slab oaM h)) ∗ (bigSep Finset.univ fun h : Fin 16 => some1 (F := F) c (lslab laM h)))
    ∗ ((bigSep Finset.univ fun h : Fin 16 => some1 (F := F) c (slab ksM h)) ∗ (bigSep Finset.univ fun h : Fin 16 => some1 (F := F) c (slab vsM h)))
    ∗ ((bigSep Finset.univ fun h : Fin 16 => some1 (F := F) c (slab krM h)) ∗ (bigSep Finset.univ fun h : Fin 16 => some1 (F := F) c (slab vrM h)))
    ∗ (bigSep Finset.univ fun h : Fin 16 => zers (F := F) c h)) := by
  unfold HE fin2 cols locs sends landing
  simp only [bigSep_sep', OC_eq]
  iintro ⟨⟨⟨Hk, Hv, Hq⟩, ⟨H1, H2, H3⟩, ⟨H4, H5⟩, ⟨H6, H7⟩, Hz⟩, Ho⟩
  isplitl [Hq Hk Hv Ho]
  · isplitl [Hq]; · iexact Hq
    isplitl [Hk]; · iexact Hk
    isplitl [Hv]; · iexact Hv
    iexact Ho
  isplitl [H1 H2 H3]
  · isplitl [H1]; · iexact H1
    isplitl [H2]; · iexact H2
    iexact H3
  isplitl [H4 H5]
  · isplitl [H4]; · iexact H4
    iexact H5
  isplitl [H6 H7]
  · isplitl [H6]; · iexact H6
    iexact H7
  iexact Hz

theorem zers_deal : (bigSep Finset.univ fun h : Fin 16 => zers (F := F) c h) ⊢ (bigSep Finset.univ fun x : Fin 4 × Fin 16 => semVal (xCell c x.1 x.2) 0 : sProp 𝕄) := by
  rw [bigX]
  refine bigSep_mono fun h _ => ?_
  have hr : zers (F := F) c h ⊢ (iprop(semVal (xCell c 0 h) 0 ∗ semVal (xCell c 1 h) 0 ∗ semVal (xCell c 2 h) 0 ∗ semVal (xCell c 3 h) 0) : sProp 𝕄) := by
    unfold zers
    iintro ⟨H0, H2, H1, H3⟩
    isplitl [H0]; · iexact H0
    isplitl [H1]; · iexact H1
    isplitl [H2]; · iexact H2
    iexact H3
  exact hr

/-- What the last point leaves is the result, the operands, the scratch and every semaphore at zero. -/
theorem leave : Phi m c 32 ⊢ iprop(final m c ∗ Pipeline.ownSems0 (Ix := Unit) (Name := ℕ) (U := UU) (Lvl := ℕ) (Val := Elt F) (τ := τ) osem c ∗ scratch (F := F) c) := by
  have hh : (bigSep Finset.univ fun h : Fin 16 => heads1 m c 16 h : sProp 𝕄) = bigSep Finset.univ fun h : Fin 16 => HE m c h :=
    bigSep_congr fun h _ => heads1_E m c (by have := h.isLt; omega) (Or.inr rfl)
  have hs : SB (F := F) c 16 = iprop(sfree (F := F) c 0 ∗ sfree (F := F) c 1) := by
    unfold SB; rw [if_pos (Or.inr rfl), if_pos (Or.inr rfl)]
  unfold Phi
  rw [show 32 = 16 + 16 from rfl, core_hi m c 16 (by decide)]
  unfold ph1
  rw [hh, hs, ownSems0_eq, loads_eq, big2]
  unfold final scratch
  rw [unscopedSems0_eq]
  unfold lfree sfree
  iintro ⟨-, Hh, ⟨⟨Ho0, Hs0⟩, ⟨Ho1, Hs1⟩⟩, ⟨⟨⟨Hk0, Ha0⟩, ⟨Hv0, Ha1⟩, ⟨Hq0, Ha2⟩⟩, ⟨⟨Hk1, Hb0⟩, ⟨Hv1, Hb1⟩, ⟨Hq1, Hb2⟩⟩⟩, HB⟩
  ihave ⟨⟨Hq, Hk, Hv, Ho⟩, ⟨H1, H2, H3⟩, ⟨H4, H5⟩, ⟨H6, H7⟩, Hz⟩ := (heads_out m c) $$ Hh
  isplitl [HB Hq Hk Hv Ho]
  · isplitl [HB]; · iexact HB
    isplitl [Hq]; · iapply (cols_join c qM (argQ m c)); iexact Hq
    isplitl [Hk]; · iapply (cols_join c kM (argK m c)); iexact Hk
    isplitl [Hv]; · iapply (cols_join c vM (argV m c)); iexact Hv
    iapply (cols_join c oM (outOf m c)); iexact Ho
  isplitl [Ha0 Ha1 Ha2 Hb0 Hb1 Hb2 Hs0 Hs1 Hz]
  · isplitl [Ha0 Ha1 Ha2 Hb0 Hb1 Hb2]
    · isplitl [Ha0 Ha1 Ha2]
      · isplitl [Ha0]; · iexact Ha0
        isplitl [Ha1]; · iexact Ha1
        iexact Ha2
      · isplitl [Hb0]; · iexact Hb0
        isplitl [Hb1]; · iexact Hb1
        iexact Hb2
    isplitl [Hs0 Hs1]
    · isplitl [Hs0]; · iexact Hs0
      iexact Hs1
    iapply (zers_deal (F := F) c); iexact Hz
  isplitl [H1]; · iapply (slabs_join (F := F) c qsM); iexact H1
  isplitl [Hq0 Hq1]
  · iapply (slots_join (F := F) c qbM)
    isplitl [Hq0]; · iexact Hq0
    iexact Hq1
  isplitl [Hk0 Hk1]
  · iapply (slots_join (F := F) c kbM)
    isplitl [Hk0]; · iexact Hk0
    iexact Hk1
  isplitl [Hv0 Hv1]
  · iapply (slots_join (F := F) c vbM)
    isplitl [Hv0]; · iexact Hv0
    iexact Hv1
  isplitl [H4]; · iapply (slabs_join (F := F) c ksM); iexact H4
  isplitl [H5]; · iapply (slabs_join (F := F) c vsM); iexact H5
  isplitl [H6]; · iapply (slabs_join (F := F) c krM); iexact H6
  isplitl [H7]; · iapply (slabs_join (F := F) c vrM); iexact H7
  isplitl [H2]; · iapply (slabs_join (F := F) c oaM); iexact H2
  isplitl [H3]; · iapply (lslabs_join (F := F) c laM); iexact H3
  iapply (slots_join (F := F) c obM)
  isplitl [Ho0]; · iexact Ho0
  iexact Ho1

/-! ## The run -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G'
  rw [whole_eq, whole_eq, whole_eq]
  iintro ⟨⟨Hq, Hk, Hv, Ho⟩, HL, Hcr, -, HK, Hl⟩
  ihave Hcr := (creds (F := F) c) $$ Hcr
  imodintro
  isplitl
  · isplitl [HK HL]
    · isplitl [HK]; · iexact HK
      iexact HL
    isplitl [Hl]; · iexact Hl
    isplitl [Hcr]; · iexact Hcr
    isplitl [Hq]; · iexact Hq
    isplitl [Hk]; · iexact Hk
    isplitl [Hv]; · iexact Hv
    iexists (m ((c : Thread nD τ).loc main_v1))
    rw [whole_eq]
    iexact Ho
  · iempintro

/-- What a run leaves in a device's memory: its operands as they were, its result, its own semaphores' counters at zero. -/
def Left (s : MemSt nD τ sig (Elt F)) : Prop :=
  (s.mem ((c : Thread nD τ).loc main_arg0) = argQ m c ∧ s.mem ((c : Thread nD τ).loc main_arg1) = argK m c ∧ s.mem ((c : Thread nD τ).loc main_arg2) = argV m c
    ∧ s.mem ((c : Thread nD τ).loc main_v1) = outOf m c) ∧ ∀ sm : SemLoc sig, sm.isScoped .tc = false → s.sem ((c.tc : Thread nD τ), sm) = 0

theorem read_final (s' : Phys nD τ sig (Elt F)) : iprop(final m c ∗ emp ∗ SI s') ⊢ |={Set.univ}=> iprop(⌜Left m c s'.mem⌝ ∗ SI s') := by
  have hrd (b : Ref sig .tc) (X : Buf (Elt F) ((c : Thread nD τ).loc b)) : (iprop((((c : Thread nD τ).loc b) ↦{fullShare} X) ∗ SI s') : sProp 𝕄) ⊢ iprop(⌜s'.mem.mem ((c : Thread nD τ).loc b) = X⌝ ∗ SI s') := by
    have h := pointsTo_read_all (Ix := Unit) (Name := ℕ) (U := UU) (Lvl := ℕ) (Finset.univ : Finset Unit) (fun _ => (c : Thread nD τ).loc b) (fun _ => X) s'
    rw [bigSep_univ_of_subsingleton ()] at h
    iintro H
    ihave ⟨%h2, H⟩ := h $$ H
    isplitr
    · ipureintro; exact h2 () (Finset.mem_univ _)
    iexact H
  unfold final
  rw [whole_eq, whole_eq, whole_eq, whole_eq]
  iintro ⟨⟨Hu, Hq, Hk, Hv, Ho⟩, -, HSI⟩
  ihave ⟨%h0, HSI⟩ := (hrd main_arg0 _) $$ [Hq HSI]
  · isplitl [Hq]; · iexact Hq
    iexact HSI
  ihave ⟨%h1, HSI⟩ := (hrd main_arg1 _) $$ [Hk HSI]
  · isplitl [Hk]; · iexact Hk
    iexact HSI
  ihave ⟨%h2, HSI⟩ := (hrd main_arg2 _) $$ [Hv HSI]
  · isplitl [Hv]; · iexact Hv
    iexact HSI
  ihave ⟨%h3, HSI⟩ := (hrd main_v1 _) $$ [Ho HSI]
  · isplitl [Ho]; · iexact Ho
    iexact HSI
  imod (Pipeline.unscopedSems0_read (X := unscopedSems0 c) (c := c) fupd_intro s') $$ [Hu HSI] with ⟨%hz, HSI⟩
  · isplitl [Hu]; · iexact Hu
    iexact HSI
  imodintro
  isplitr
  · ipureintro; exact ⟨⟨h0, h1, h2, h3⟩, hz⟩
  iexact HSI

theorem waits : (levAts L lv : sProp 𝕄) ⊢ Pipeline.cellsWaits cfgs (dats (F := F) m) () 0 c :=
  Pipeline.cellsWaits_intro cfgs (dats (F := F) m) () 0 c fun w _ _ => w.elim0

set_option maxRecDepth 8000 in
/-- From any memory with every counter at zero, for any float values, every weakly fair execution of the kernel on the
    thirty-two devices ends, with every device's operands as they were, its result at `outOf`, and every counter at zero. -/
theorem run_main : θ_run defs (onTc (τ := τ) (main (F := F))) ⟨m, fun _ => 0, ρ⟩ (fun r => (∀ c, Left m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun c => owedAt_0 c) (howedN := fun c => owedAt_hi c (by decide : 16 ≤ 32))
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      ihave HX := (show (BI.own (((Emb.inl : Emb UB (UB × Counters)).trans embR) (initOf xcells xtoks)) : sProp 𝕄) ⊢ BI.own (ER (initOf xcells xtoks)) from BI.Entails.refl _) $$ HX
      imod (fund m) $$ HX with HG
      imodintro
      isplitl [HP]; · iexact HP
      iexact HG)
    (hglob := glob m)
    (hA := fun _ w => w.elim0) (hpf := fun _ k => k.elim0)
    (X := start m) (Y := final m) (Z := fun _ => iprop(emp))
    (hX := start_intro m ρ)
    (hin := fun c => by
      rw [show (dats (F := F) m 0 c).Φ 0 = Phi m c 0 from rfl]
      refine BIBase.Entails.trans ?_ (enter m c)
      rw [scratch_eq]
      iintro ⟨Hs, -, Hr⟩
      isplitl [Hs]; · iexact Hs
      iexact Hr)
    (hout := fun c => by
      rw [show (dats (F := F) m 0 c).Φ (Fin.last cfg0.N) = Phi m c 32 from rfl, scratch_eq]
      exact leave m c)
    (QY := fun c s => Left m c s)
    (hY := fun c s' => read_final m c s')
    (hQ := fun _ h hs => ⟨fun c => (h c).2.2, sem_eq_zero hs fun c => (h c).2.2.2⟩)

end Cert.AttnProof

end
-- ==== Proof.KRead.lean ====
module
public import proofs.«01_k».proof.Proof.Slabs
public import Idealize.ShloMosaic.Lib.Pipeline.Value
public import Idealize.ShloMosaic.Lib.ValueIdx
public import Idealize.ShloMosaic.PureOps.Ideal.Laws
@[expose] public section
noncomputable section
namespace Cert.AttnProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
variable {F : FTy → Type} [FloatOps F]
local notation "𝕄" => MT nD τ sig Unit (Elt F) ℕ UU ℕ

variable (m : (ℓ : Loc nD τ sig) → Buf (Elt F) ℓ) (ρ : Dev nD → PrngReg)
open Idealize.ShloMosaic.ValueIdx
open scoped BigOperators

/-! # The kernel's arithmetic read at an index, over the extended reals -/

/-- The two products' dimension numbers: the scores contract the columns of both operands, -/
abbrev DS := dot_S1024x128_S1024x128_S1024x1024_1_1_0_0_n_n
/-- the weighted values contract the columns of the weights with the rows of the values. -/
abbrev DV := dot_S1024x1024_S1024x128_S1024x128_1_0_0_1_n_n

theorem ds_l (i j : Fin 1024) (k : Fin 128) : DS.lhsIdx (ix2 i j) ((contrEquiv1 DS 128 rfl rfl).symm k) = ix2 i k := funext fun a => Fin.ext (by
  match a with
  | ⟨0, _⟩ =>
    show (DS.lhsIdx (ix2 i j) ((contrEquiv1 DS 128 rfl rfl).symm k) 0).val = i.val
    unfold DotDims.lhsIdx
    rw [dif_neg (show ¬(0 : Fin S1024x128.rank) ∈ DS.lhsBatch by decide), dif_pos (show (0 : Fin S1024x128.rank) ∈ DS.lhsNonContracting by decide)]
    rfl
  | ⟨1, _⟩ => exact (DS.lhsIdx_val_of_single rfl _ _).trans (contrEquiv1_symm_val DS 128 rfl rfl k))
theorem ds_r (i j : Fin 1024) (k : Fin 128) : DS.rhsIdx (ix2 i j) ((contrEquiv1 DS 128 rfl rfl).symm k) = ix2 j k := funext fun a => Fin.ext (by
  match a with
  | ⟨0, _⟩ =>
    show (DS.rhsIdx (ix2 i j) ((contrEquiv1 DS 128 rfl rfl).symm k) 0).val = j.val
    unfold DotDims.rhsIdx
    rw [dif_neg (show ¬(0 : Fin S1024x128.rank) ∈ DS.rhsBatch by decide), dif_pos (show (0 : Fin S1024x128.rank) ∈ DS.rhsNonContracting by decide)]
    rfl
  | ⟨1, _⟩ => exact (DS.rhsIdx_val_of_single rfl _ _).trans (contrEquiv1_symm_val DS 128 rfl rfl k))
theorem dv_l (i : Fin 1024) (d : Fin 128) (k : Fin 1024) : DV.lhsIdx (ix2 i d) ((contrEquiv1 DV 1024 rfl rfl).symm k) = ix2 i k := funext fun a => Fin.ext (by
  match a with
  | ⟨0, _⟩ =>
    show (DV.lhsIdx (ix2 i d) ((contrEquiv1 DV 1024 rfl rfl).symm k) 0).val = i.val
    unfold DotDims.lhsIdx
    rw [dif_neg (show ¬(0 : Fin S1024x1024.rank) ∈ DV.lhsBatch by decide), dif_pos (show (0 : Fin S1024x1024.rank) ∈ DV.lhsNonContracting by decide)]
    rfl
  | ⟨1, _⟩ => exact (DV.lhsIdx_val_of_single rfl _ _).trans (contrEquiv1_symm_val DV 1024 rfl rfl k))
theorem dv_r (i : Fin 1024) (d : Fin 128) (k : Fin 1024) : DV.rhsIdx (ix2 i d) ((contrEquiv1 DV 1024 rfl rfl).symm k) = ix2 k d := funext fun a => Fin.ext (by
  match a with
  | ⟨0, _⟩ => exact (DV.rhsIdx_val_of_single rfl _ _).trans (contrEquiv1_symm_val DV 1024 rfl rfl k)
  | ⟨1, _⟩ =>
    show (DV.rhsIdx (ix2 i d) ((contrEquiv1 DV 1024 rfl rfl).symm k) 1).val = d.val
    unfold DotDims.rhsIdx
    rw [dif_neg (show ¬(1 : Fin S1024x128.rank) ∈ DV.rhsBatch by decide), dif_pos (show (1 : Fin S1024x128.rank) ∈ DV.rhsNonContracting by decide)]
    rfl)

/-- A head's plane without its leading axis of one, -/
theorem drop_apply {α : Type} (x : S1x1024x128.Idx → α) (h : S1x1024x128.ShapeCasts S1024x128) (i : Fin 1024) (d : Fin 128) :
    shapeCast S1024x128 x h (ix2 i d) = x (ix3 0 i d) :=
  shapeCast_apply x h _ _ (by rw [Shape.rowMajor_val_three, Shape.rowMajor_val_two]; show (0 * 1024 + i.val) * 128 + d.val = i.val * 128 + d.val; omega)
/-- and with it; -/
theorem add_apply {α : Type} (x : S1024x128.Idx → α) (h : S1024x128.ShapeCasts S1x1024x128) (i : Fin 1024) (d : Fin 128) :
    shapeCast S1x1024x128 x h (ix3 0 i d) = x (ix2 i d) :=
  shapeCast_apply x h _ _ (by rw [Shape.rowMajor_val_three, Shape.rowMajor_val_two]; show i.val * 128 + d.val = (0 * 1024 + i.val) * 128 + d.val; omega)
/-- the same of a column of row sums, -/
theorem drop1_apply {α : Type} (x : S1x1024x1.Idx → α) (h : S1x1024x1.ShapeCasts S1024x1) (i : Fin 1024) :
    shapeCast S1024x1 x h (ix2 i 0) = x (ix3 0 i 0) :=
  shapeCast_apply x h _ _ (by rw [Shape.rowMajor_val_three, Shape.rowMajor_val_two]; show (0 * 1024 + i.val) * 1 + 0 = i.val * 1 + 0; omega)
theorem add1_apply {α : Type} (x : S1024x1.Idx → α) (h : S1024x1.ShapeCasts S1x1024x1) (i : Fin 1024) :
    shapeCast S1x1024x1 x h (ix3 0 i 0) = x (ix2 i 0) :=
  shapeCast_apply x h _ _ (by rw [Shape.rowMajor_val_three, Shape.rowMajor_val_two]; show i.val * 1 + 0 = (0 * 1024 + i.val) * 1 + 0; omega)
/-- which is a vector stood upright. -/
theorem up_apply {α : Type} (x : S1024.Idx → α) (h : S1024.ShapeCasts S1024x1) (i : Fin 1024) :
    shapeCast S1024x1 x h (ix2 i 0) = x (ix1 i) :=
  shapeCast_apply x h _ _ (by rw [Shape.rowMajor_val_one, Shape.rowMajor_val_two]; show i.val = i.val * 1 + 0; omega)

/-- The exponentials of the scores of queries against keys, all of one head. -/
def wgt (q k : S1x1024x128.Idx → EReal) (i j : Fin 1024) : EReal := Ideal.exp (∑ d : Fin 128, q (ix3 0 i d) * k (ix3 0 j d))

theorem pay1_apply (x : S1x1024x128.Idx → EReal) (i : Fin 1024) (d : Fin 128) : (k0_pay1 (F := Ideal) x (ix3 0 i d) : EReal) = x (ix3 0 i d) := by
  unfold k0_pay1
  exact (add_apply _ _ i d).trans (drop_apply x _ i d)
theorem pay2_apply (x : S1x1024x128.Idx → EReal) (i : Fin 1024) (d : Fin 128) : (k0_pay2 (F := Ideal) x (ix3 0 i d) : EReal) = x (ix3 0 i d) := by
  unfold k0_pay2
  exact (add_apply _ _ i d).trans (drop_apply x _ i d)
theorem pay3_apply (x : S1x1024x128.Idx → EReal) (i : Fin 1024) (d : Fin 128) :
    (k0_pay3 (F := Ideal) x (ix3 0 i d) : EReal) = x (ix3 0 i d) * Ideal.ofBits .f32 0x3DB504F3#32 := by
  unfold k0_pay3
  exact (add_apply _ _ i d).trans (congrArg (· * Ideal.ofBits .f32 0x3DB504F3#32) (drop_apply x _ i d))
/-- The scores' exponentials, -/
theorem pay4_apply (q k : S1x1024x128.Idx → EReal) (i j : Fin 1024) : (k0_pay4 (F := Ideal) q k (ix2 i j) : EReal) = wgt q k i j := by
  unfold k0_pay4 wgt
  refine congrArg Ideal.exp ((Ideal.matmul_constant_zero_apply DS none _ _ (ix2 i j)).trans ?_)
  rw [← Equiv.sum_comp (contrEquiv1 DS 128 rfl rfl).symm]
  refine Finset.sum_congr rfl fun d _ => ?_
  rw [ds_l, ds_r]
  exact congrArg₂ (· * ·) (drop_apply q _ i d) (drop_apply k _ j d)
/-- their sums along each row, -/
theorem rows_apply (w : S1024x1024.Idx → EReal) (i : Fin 1024) :
    (multiReduction (F := Ideal) (φ := .f32) .add [1] S1024 w 0x00000000#32 reduces_S1024x1024_S1024 (.inl rfl) rfl (ix1 i) : EReal) = ∑ j : Fin 1024, w (ix2 i j) := by
  refine (Ideal.multiReduction_add_single w _ reduces_S1024x1024_S1024 _ _ (ix1 i)).trans (Finset.sum_congr rfl fun j _ => congrArg w (funext fun a => Fin.ext ?_))
  match a with
  | ⟨0, _⟩ => rfl
  | ⟨1, _⟩ => rfl
theorem pay5_apply (q k : S1x1024x128.Idx → EReal) (i : Fin 1024) : (k0_pay5 (F := Ideal) q k (ix3 0 i 0) : EReal) = ∑ j : Fin 1024, wgt q k i j := by
  unfold k0_pay5
  refine (add1_apply _ _ i).trans ((up_apply _ _ i).trans ((rows_apply _ i).trans (Finset.sum_congr rfl fun j _ => pay4_apply q k i j)))
/-- and the values weighted by them. -/
theorem vals_apply (w : S1024x1024.Idx → EReal) (v : S1x1024x128.Idx → EReal) (i : Fin 1024) (d : Fin 128) :
    (FloatOps.matmul (F := Ideal) (φ₁ := .bf16) (φ₂ := .bf16) DV none w (shapeCast S1024x128 v shapeCasts_S1x1024x128_S1024x128) (constant S1024x128 .f32 0x00000000#32) (ix2 i d) : EReal)
      = ∑ j : Fin 1024, w (ix2 i j) * v (ix3 0 j d) := by
  refine (Ideal.matmul_constant_zero_apply DV none _ _ (ix2 i d)).trans ?_
  rw [← Equiv.sum_comp (contrEquiv1 DV 1024 rfl rfl).symm]
  refine Finset.sum_congr rfl fun j _ => ?_
  rw [dv_l, dv_r]
  exact congrArg₂ (· * ·) rfl (drop_apply v _ j d)
theorem pay6_apply (q k v : S1x1024x128.Idx → EReal) (i : Fin 1024) (d : Fin 128) :
    (k0_pay6 (F := Ideal) q k v (ix3 0 i d) : EReal) = ∑ j : Fin 1024, wgt q k i j * v (ix3 0 j d) := by
  unfold k0_pay6
  refine (add_apply _ _ i d).trans ((vals_apply _ v i d).trans (Finset.sum_congr rfl fun j _ => congrArg (· * v (ix3 0 j d)) (pay4_apply q k i j)))
/-- The second half's: both sums joined, and the quotient. -/
theorem pay7_apply (q k v oa : S1x1024x128.Idx → EReal) (la : S1x1024x1.Idx → EReal) (i : Fin 1024) (d : Fin 128) :
    (k0_pay7 (F := Ideal) q k v oa la (ix3 0 i d) : EReal)
      = Ideal.div (oa (ix3 0 i d) + ∑ j : Fin 1024, wgt q k i j * v (ix3 0 j d)) (la (ix3 0 i 0) + ∑ j : Fin 1024, wgt q k i j) := by
  unfold k0_pay7
  refine (add_apply _ _ i d).trans (congrArg₂ Ideal.div (congrArg₂ (· + ·) (drop_apply oa _ i d) ?_) ?_)
  · exact (vals_apply _ v i d).trans (Finset.sum_congr rfl fun j _ => congrArg (· * v (ix3 0 j d)) (pay4_apply q k i j))
  · refine (broadcastTo_apply _ broadcasts_S1024x1_S1024x128 (ix2 i d) (ix2 i 0) fun a => ?_).trans
      (congrArg₂ (· + ·) (drop1_apply la _ i) ((up_apply _ _ i).trans ((rows_apply _ i).trans (Finset.sum_congr rfl fun j _ => pay4_apply q k i j))))
    match a with
    | ⟨0, _⟩ => rfl
    | ⟨1, _⟩ => rfl

/-! ## A head of an operand in its place, and a head of the result -/

theorem ldd_apply (A : S1x1024x16x128.Idx → EReal) (h : Fin 16) (i : Fin 1024) (d : Fin 128) : (ldd (F := Ideal) A h (ix3 0 i d) : EReal) = A (ix4 0 i h d) := by
  unfold ldd moved colOf
  rw [Shape.reshapeEquiv_eq_of_rowMajor numel_ld (x := ix3 0 i d) (y := ix4 0 i 0 d) (by
    rw [Shape.rowMajor_val_three, Shape.rowMajor_val_four]; show ((0 * 1024 + i.val) * 1 + 0) * 128 + d.val = (0 * 1024 + i.val) * 128 + d.val; omega)]
  refine congrArg A (funext fun a => Fin.ext ?_)
  rw [Rect.emb_apply]
  match a with
  | ⟨0, _⟩ => rfl
  | ⟨1, _⟩ => show 0 + 1 * i.val = i.val; omega
  | ⟨2, _⟩ => show h.val + 1 * 0 = h.val; omega
  | ⟨3, _⟩ => show 0 + 1 * d.val = d.val; omega
theorem out_apply (m : (ℓ : Loc nD τ sig) → Buf (Elt Ideal) ℓ) (c : Dev nD) (i : Fin 1024) (h : Fin 16) (d : Fin 128) :
    (outOf m c (ix4 0 i h d) : EReal) = OB m c h (ix3 0 i d) := by
  show OB m c h (Shape.reshapeEquiv numel_st _) = _
  rw [Shape.reshapeEquiv_eq_of_rowMajor numel_st (x := inCol (ix4 0 i h d)) (y := ix3 0 i d) (by
    rw [Shape.rowMajor_val_three, Shape.rowMajor_val_four]; show (0 * 1024 + i.val) * 128 + d.val = ((0 * 1024 + i.val) * 1 + 0) * 128 + d.val; omega)]

/-- The exponential of the score of row `i` of a device's queries, scaled, against row `j` of some keys, for head `h`. -/
def wt (Q K : S1x1024x16x128.Idx → EReal) (h : Fin 16) (i j : Fin 1024) : EReal :=
  Ideal.exp (∑ d : Fin 128, (Q (ix4 0 i h d) * Ideal.ofBits .f32 0x3DB504F3#32) * K (ix4 0 j h d))

variable (m : (ℓ : Loc nD τ sig) → Buf (Elt Ideal) ℓ)

theorem wgt_eq (c c' : Dev nD) (h : Fin 16) (i j : Fin 1024) : wgt (QS m c h) (KB m c' h) i j = wt (argQ m c) (argK m c') h i j := by
  unfold wgt wt
  refine congrArg Ideal.exp (Finset.sum_congr rfl fun d _ => congrArg₂ (· * ·) ?_ ?_)
  · exact (pay3_apply _ i d).trans (congrArg (· * Ideal.ofBits .f32 0x3DB504F3#32) (ldd_apply (argQ m c) h i d))
  · exact (pay1_apply _ j d).trans (ldd_apply (argK m c') h j d)
theorem vb_apply (c : Dev nD) (h : Fin 16) (j : Fin 1024) (d : Fin 128) : (VB m c h (ix3 0 j d) : EReal) = argV m c (ix4 0 j h d) :=
  (pay2_apply _ j d).trans (ldd_apply (argV m c) h j d)

/-- **What a device computes**: of its own and its peer's keys and values, the values weighted by the exponentials of the
    scores, divided by the sum of the exponentials. -/
theorem outOf_apply (c : Dev nD) (i : Fin 1024) (h : Fin 16) (d : Fin 128) :
    (outOf m c (ix4 0 i h d) : EReal)
      = Ideal.div
          (∑ j : Fin 1024, wt (argQ m c) (argK m c) h i j * argV m c (ix4 0 j h d)
            + ∑ j : Fin 1024, wt (argQ m c) (argK m (peer c)) h i j * argV m (peer c) (ix4 0 j h d))
          (∑ j : Fin 1024, wt (argQ m c) (argK m c) h i j + ∑ j : Fin 1024, wt (argQ m c) (argK m (peer c)) h i j) := by
  refine (out_apply m c i h d).trans ((pay7_apply _ _ _ _ _ i d).trans (congrArg₂ Ideal.div (congrArg₂ (· + ·) ?_ ?_) (congrArg₂ (· + ·) ?_ ?_)))
  · exact (pay6_apply _ _ _ i d).trans (Finset.sum_congr rfl fun j _ => congrArg₂ (· * ·) (wgt_eq m c c h i j) (vb_apply m c h j d))
  · exact Finset.sum_congr rfl fun j _ => congrArg₂ (· * ·) (wgt_eq m c (peer c) h i j) (vb_apply m (peer c) h j d)
  · exact (pay5_apply _ _ i).trans (Finset.sum_congr rfl fun j _ => wgt_eq m c c h i j)
  · exact Finset.sum_congr rfl fun j _ => wgt_eq m c (peer c) h i j

end Cert.AttnProof

end
-- ==== Proof.Soft.lean ====
module
public import Idealize.ShloMosaic.PureOps.Ideal.Laws
@[expose] public section
noncomputable section
namespace Cert.AttnProof
open Idealize.ShloMosaic
open scoped BigOperators

/-! # A weighted average by exponentials, over the extended reals

The scores are reals; the values averaged may be any extended reals. -/

/-- A sum of reals is the same sum among the extended reals. -/
theorem coe_sum {K : Type} (t : Finset K) (f : K → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A real that is not negative multiplies a sum of extended reals term by term. -/
theorem coe_mul_sum {K : Type} (t : Finset K) {r : ℝ} (hr : 0 ≤ r) (f : K → EReal) :
    (r : EReal) * ∑ k ∈ t, f k = ∑ k ∈ t, (r : EReal) * f k := by
  classical
  induction t using Finset.induction_on with
  | empty => simp
  | insert a t ha ih =>
    rw [Finset.sum_insert ha, Finset.sum_insert ha, ← ih]
    exact EReal.left_distrib_of_nonneg_of_ne_top (by exact_mod_cast hr) (EReal.coe_ne_top r) _ _

/-- Weights that are exponentials of real scores, each score lowered by the same real and each weight divided by their
    sum, average the values to the sum of exponential times value divided by the sum of the exponentials. -/
theorem softmax_avg {K : Type} [Fintype K] [Nonempty K] (s : K → ℝ) (v : K → EReal) (M : ℝ) :
    ∑ k, v k * Ideal.div (Ideal.exp ((s k : EReal) - (M : EReal))) (0 + ∑ k', Ideal.exp ((s k' : EReal) - (M : EReal)))
      = Ideal.div (∑ k, Ideal.exp (s k) * v k) (∑ k, Ideal.exp (s k)) := by
  have hpos : (0 : ℝ) < ∑ k, Real.exp (s k) := Finset.sum_pos (fun k _ => Real.exp_pos _) Finset.univ_nonempty
  have hpos' : (0 : ℝ) < ∑ k, Real.exp (s k - M) := Finset.sum_pos (fun k _ => Real.exp_pos _) Finset.univ_nonempty
  have hZ : ∑ k, Real.exp (s k - M) = (∑ k, Real.exp (s k)) * Real.exp (-M) := by
    rw [Finset.sum_mul]; exact Finset.sum_congr rfl fun k _ => by rw [sub_eq_add_neg, Real.exp_add]
  have e1 (k : K) : Ideal.exp ((s k : EReal) - (M : EReal)) = ((Real.exp (s k - M) : ℝ) : EReal) := by
    rw [← EReal.coe_sub, Ideal.exp_coe]
  have e2 : ∑ k, Ideal.exp (s k) = ((∑ k, Real.exp (s k) : ℝ) : EReal) := by
    rw [coe_sum]; exact Finset.sum_congr rfl fun k _ => Ideal.exp_coe _
  simp only [e1]
  rw [zero_add, ← coe_sum, e2, Ideal.div_coe hpos.ne', mul_comm (∑ k, _), coe_mul_sum _ (by positivity)]
  refine Finset.sum_congr rfl fun k _ => ?_
  rw [Ideal.div_coe hpos'.ne', Ideal.exp_coe, ← mul_assoc ((1 / ∑ k, Real.exp (s k) : ℝ) : EReal), ← EReal.coe_mul, ← EReal.coe_mul,
    mul_comm (v k)]
  congr 2
  rw [hZ, sub_eq_add_neg, Real.exp_add]
  have := (Real.exp_pos (-M)).ne'
  field_simp

/-- The greatest of finitely many reals, starting from any extended real below the top, is a real if there is one. -/
theorem foldl_max_real {K : Type} (l : List K) (f : K → ℝ) (a : EReal) (ha : a ≠ ⊤) (h : l ≠ [] ∨ a ≠ ⊥) :
    ∃ r : ℝ, l.foldl (fun x k => max x (f k : EReal)) a = (r : EReal) := by
  induction l generalizing a with
  | nil =>
    rcases h with h | h
    · exact absurd rfl h
    · exact ⟨a.toReal, (EReal.coe_toReal ha h).symm⟩
  | cons k l ih =>
    refine ih (max a (f k : EReal)) ?_ (Or.inr ?_)
    · exact (max_lt (lt_top_iff_ne_top.mpr ha) (EReal.coe_lt_top _)).ne
    · exact ((EReal.bot_lt_coe (f k)).trans_le (le_max_right _ _)).ne'

/-- An extended real whose absolute value is below the top is a real. -/
theorem real_of_abs_lt (x : EReal) (h : max x (-x) < ⊤) : ∃ r : ℝ, x = (r : EReal) := by
  induction x with
  | bot => simp at h
  | coe r => exact ⟨r, rfl⟩
  | top => simp at h

end Cert.AttnProof

end
-- ==== Proof.RRead.lean ====
module
public import proofs.«01_k».proof.Proof.Gen.ReferenceIdeal.Read
public import proofs.«01_k».proof.Proof.Soft
@[expose] public section
noncomputable section
namespace Cert.AttnProof.Whole
open Cert.ReferenceIdeal Cert.ReferenceIdeal.Gen Cert.ReferenceIdeal.Read
open Idealize.ShloMosaic Idealize.ShloMosaic.ValueIdx
open scoped BigOperators

/-! # The reference read at an index, over the extended reals -/

/-- The literal the scores are scaled by is a real. -/
theorem scale_real : ∃ r : ℝ, Ideal.ofBits .f32 0x3DB504F3#32 = (r : EReal) := by
  unfold Ideal.ofBits Ideal.ieee
  dsimp only
  rw [if_neg (by decide), if_neg (by decide)]
  exact ⟨_, rfl⟩

/-- The literal a row's maximum starts from is below every real. -/
theorem start_ne_top : Ideal.ofBits .f32 0xFF800000#32 ≠ (⊤ : EReal) := by
  unfold Ideal.ofBits Ideal.ieee
  dsimp only
  rw [if_pos (by decide), if_pos (by decide), if_pos (by decide)]
  exact bot_ne_top

variable (Q K V : S1x2048x16x128.Idx → EReal)

/-- The exponential of the score of row `r`, scaled, against row `k`, for head `h`. -/
def wt (h : Fin 16) (r k : Fin 2048) : EReal :=
  Ideal.exp (∑ d : Fin 128, (Q (ix4 0 r h d) * Ideal.ofBits .f32 0x3DB504F3#32) * K (ix4 0 k h d))

variable {Q K} (q k : S1x2048x16x128.Idx → ℝ) (c : ℝ) (hq : ∀ x, Q x = (q x : EReal)) (hk : ∀ x, K x = (k x : EReal))
  (hc : Ideal.ofBits .f32 0x3DB504F3#32 = (c : EReal))

/-- The scores when the queries and keys are reals. -/
def sc (i : S1x16x2048x2048.Idx) : ℝ := ∑ d : Fin 128, (q (lidx_main_v0 i d) * c) * k (ridx_main_v0 i d)

include hq hk hc

theorem v2_real (i : S1x16x2048x2048.Idx) : (val_main_v2 (F := Ideal) Q K i : EReal) = (sc q k c i : EReal) := by
  rw [val_main_v2_apply, val_main_v1_apply, val_main_cst_apply, val_main_v0_apply]
  show (∑ d : Fin 128, Q (lidx_main_v0 i d) * K (ridx_main_v0 i d)) * Ideal.ofBits .f32 0x3DB504F3#32 = _
  have e : ∑ d : Fin 128, Q (lidx_main_v0 i d) * K (ridx_main_v0 i d)
      = ((∑ d : Fin 128, q (lidx_main_v0 i d) * k (ridx_main_v0 i d) : ℝ) : EReal) := by
    rw [coe_sum]; exact Finset.sum_congr rfl fun d _ => by rw [hq, hk, EReal.coe_mul]
  rw [e, hc, ← EReal.coe_mul]
  refine congrArg _ ?_
  unfold sc
  rw [Finset.sum_mul]
  exact Finset.sum_congr rfl fun d _ => by ring

theorem v3_real (j : S1x16x2048.Idx) : ∃ M : ℝ, (val_main_v3 (F := Ideal) Q K j : EReal) = (M : EReal) := by
  unfold val_main_v3 Host.reduce
  have e (n) : (val_main_v2 (F := Ideal) Q K (S1x16x2048x2048.rowMajor.symm n) : EReal) = (sc q k c (S1x16x2048x2048.rowMajor.symm n) : EReal) :=
    v2_real q k c hq hk hc _
  show ∃ M : ℝ, List.foldl (fun (r : EReal) n => max r (val_main_v2 (F := Ideal) Q K (S1x16x2048x2048.rowMajor.symm n) : EReal)) (Ideal.ofBits .f32 0xFF800000#32) _ = _
  simp only [e]
  refine foldl_max_real _ _ _ start_ne_top (Or.inl (List.ne_nil_of_mem (a := S1x16x2048x2048.rowMajor (idx_main_v8 j 0)) ?_))
  rw [List.mem_filter]
  refine ⟨List.mem_finRange _, decide_eq_true ?_⟩
  rw [Equiv.symm_apply_apply]
  funext a
  apply Fin.ext
  match a with
  | ⟨0, _⟩ => rfl
  | ⟨1, _⟩ => rfl
  | ⟨2, _⟩ => rfl

theorem wt_sc (h : Fin 16) (r kk : Fin 2048) : Ideal.exp (sc q k c (ix4 0 h r kk) : EReal) = wt Q K h r kk := by
  unfold wt sc
  refine congrArg Ideal.exp ?_
  rw [coe_sum]
  refine Finset.sum_congr rfl fun d _ => ?_
  rw [hc, hq, hk, ← EReal.coe_mul, ← EReal.coe_mul]
  have e1 : lidx_main_v0 (ix4 0 h r kk) d = ix4 0 r h d := funext fun a => match a with | ⟨0, _⟩ => rfl | ⟨1, _⟩ => rfl | ⟨2, _⟩ => rfl | ⟨3, _⟩ => rfl
  have e2 : ridx_main_v0 (ix4 0 h r kk) d = ix4 0 kk h d := funext fun a => match a with | ⟨0, _⟩ => rfl | ⟨1, _⟩ => rfl | ⟨2, _⟩ => rfl | ⟨3, _⟩ => rfl
  rw [e1, e2]

/-- **What the reference computes**, when the queries and keys are reals: the values weighted by the exponentials of the
    scores, divided by the sum of the exponentials. -/
theorem out_apply (r : Fin 2048) (h : Fin 16) (d : Fin 128) :
    (val_main_v13 (F := Ideal) Q K V (ix4 0 r h d) : EReal)
      = Ideal.div (∑ kk : Fin 2048, wt Q K h r kk * V (ix4 0 kk h d)) (∑ kk : Fin 2048, wt Q K h r kk) := by
  obtain ⟨M, hM⟩ := v3_real q k c hq hk hc (ix3 0 h r)
  have h7 (kk : Fin 2048) : (val_main_v7 (F := Ideal) Q K (ix4 0 h r kk) : EReal) = Ideal.exp ((sc q k c (ix4 0 h r kk) : EReal) - (M : EReal)) := by
    rw [val_main_v7_apply, val_main_v6_apply, val_main_v5_apply, val_main_v4_apply]
    have e : idx_main_v4 (idx_main_v5 (ix4 0 h r kk)) = ix3 0 h r := funext fun a => match a with | ⟨0, _⟩ => rfl | ⟨1, _⟩ => rfl | ⟨2, _⟩ => rfl
    rw [e]
    show Ideal.exp ((val_main_v2 (F := Ideal) Q K (ix4 0 h r kk) : EReal) - (val_main_v3 (F := Ideal) Q K (ix3 0 h r) : EReal)) = _
    rw [hM, v2_real q k c hq hk hc]
  have h10 (kk : Fin 2048) : (val_main_v10 (F := Ideal) Q K (ix4 0 h r kk) : EReal) = 0 + ∑ k' : Fin 2048, Ideal.exp ((sc q k c (ix4 0 h r k') : EReal) - (M : EReal)) := by
    rw [val_main_v10_apply, val_main_v9_apply, val_main_v8_apply]
    refine congrArg₂ (· + ·) Ideal.ofBits_zero_f32 (Finset.sum_congr rfl fun k' _ => ?_)
    have e : idx_main_v8 (idx_main_v9 (idx_main_v10 (ix4 0 h r kk))) k' = ix4 0 h r k' := funext fun a => match a with | ⟨0, _⟩ => rfl | ⟨1, _⟩ => rfl | ⟨2, _⟩ => rfl | ⟨3, _⟩ => rfl
    rw [e]; exact h7 k'
  rw [val_main_v13_apply, val_main_v12_apply]
  have main := softmax_avg (fun kk : Fin 2048 => sc q k c (ix4 0 h r kk)) (fun kk => V (ix4 0 kk h d)) M
  simp only [wt_sc q k c hq hk hc] at main
  refine Eq.trans (Finset.sum_congr rfl fun kk _ => ?_) main
  have e1 : lidx_main_v12 (idx_main_v13 (ix4 0 r h d)) kk = ix4 0 kk h d := funext fun a => match a with | ⟨0, _⟩ => rfl | ⟨1, _⟩ => rfl | ⟨2, _⟩ => rfl | ⟨3, _⟩ => rfl
  have e2 : ridx_main_v12 (idx_main_v13 (ix4 0 r h d)) kk = ix4 0 h r kk := funext fun a => match a with | ⟨0, _⟩ => rfl | ⟨1, _⟩ => rfl | ⟨2, _⟩ => rfl | ⟨3, _⟩ => rfl
  rw [e1, e2, val_main_v11_apply]
  show V (ix4 0 kk h d) * Ideal.div (val_main_v7 (F := Ideal) Q K (ix4 0 h r kk) : EReal) (val_main_v10 (F := Ideal) Q K (ix4 0 h r kk) : EReal) = _
  rw [h7, h10]

end Cert.AttnProof.Whole

end
-- ==== Proof.Meet.lean ====
module
public import proofs.«01_k».proof.Proof.KRead
public import proofs.«01_k».proof.Proof.RRead
public import proofs.«01_k».proof.Proof.Gen.Pre_finite_queries_and_keys_KernelIdeal
public import Idealize.ShloMosaic.Lib.Layout
@[expose] public section
noncomputable section
namespace Cert.AttnProof
open Idealize.ShloMosaic Idealize.ShloMosaic.TcCoe Idealize.ShloMosaic.ValueIdx
open scoped BigOperators

/-! # The precondition read: the queries and the keys are reals -/

theorem andi_one {a b : BitVec 1} (h : IntOp.andi a b = 1#1) : a = 1#1 ∧ b = 1#1 := by
  revert a b; decide
theorem foldl_andi {K : Type} (l : List K) (f : K → BitVec 1) (a : BitVec 1) (h : l.foldl (fun r n => IntOp.andi r (f n)) a = 1#1) :
    a = 1#1 ∧ ∀ n ∈ l, f n = 1#1 := by
  induction l generalizing a with
  | nil => exact ⟨h, by simp⟩
  | cons k l ih =>
    obtain ⟨h1, h2⟩ := ih _ h
    obtain ⟨h3, h4⟩ := andi_one h1
    exact ⟨h3, fun n hn => by rcases List.mem_cons.mp hn with rfl | hn; exacts [h4, h2 n hn]⟩

section Pre
open Cert.Pre_finite_queries_and_keys_KernelIdeal

/-- Where all of an operand compares below the top in absolute value, it is real at every index. -/
theorem real_of_all (A : S1x1024x16x128.Idx → EReal)
    (h : Host.reduce IntOp.andi (cmpf (F := Ideal) (φ := .f32) .olt (Host.absf A)
        (broadcastInDim S1x1024x16x128 ![] Facts.bcast_S_S1x1024x16x128 (constant (F := Ideal) S_ .f32 0x7F800000#32)))
      (constantI S_ 1 1#1) Facts.reducesTo_S1x1024x16x128_S_d0_1_2_3 Facts.h_S_ ix0 = 1#1) (x : S1x1024x16x128.Idx) :
    ∃ r : ℝ, A x = (r : EReal) := by
  unfold Host.reduce at h
  have hx := (foldl_andi _ _ _ h).2 (S1x1024x16x128.rowMajor x) (List.mem_filter.mpr ⟨List.mem_finRange _, decide_eq_true (funext fun a => a.elim0)⟩)
  rw [Equiv.symm_apply_apply] at hx
  have e : broadcastInDim S1x1024x16x128 ![] Facts.bcast_S_S1x1024x16x128 (constant (F := Ideal) S_ .f32 0x7F800000#32) x = (⊤ : EReal) := by
    rw [broadcastInDim_apply _ Facts.bcast_S_S1x1024x16x128 _ x ix0 (fun a => a.elim0)]
    show Ideal.ofBits .f32 0x7F800000#32 = ⊤
    unfold Ideal.ofBits Ideal.ieee
    dsimp only
    rw [if_pos (by decide), if_pos (by decide), if_neg (by decide)]
  have hx' : Ideal.cmp .olt (max (A x) (-(A x))) (⊤ : EReal) = 1#1 := by
    rw [← e]; exact hx
  refine real_of_abs_lt _ ?_
  by_contra hn
  simp [Ideal.cmp, hn] at hx'

theorem reals_of_pre (A B C : S1x1024x16x128.Idx → EReal) (h : fn (F := Ideal) A B C = fun _ => 1#1) :
    (∀ x, ∃ r : ℝ, A x = (r : EReal)) ∧ ∀ x, ∃ r : ℝ, B x = (r : EReal) := by
  have h0 := congrFun h ix0
  dsimp only [fn, Idealize.ShloMosaic.andi] at h0
  obtain ⟨h1, h2⟩ := andi_one h0
  exact ⟨real_of_all A h1, real_of_all B h2⟩

end Pre

open Cert.KernelIdeal Cert.KernelIdeal.Gen

/-! # A device's part of a whole array -/

/-- The half of the sequence a device holds; -/
def half (c : Dev nD) : Fin 2 := ⟨c.val / 16, by have : c.val < 32 := c.isLt; omega⟩
/-- row `i` of half `b`. -/
def row (b : Fin 2) (i : Fin 1024) : Fin 2048 := ⟨1024 * b.val + i.val, by omega⟩

/-- The part of a whole array that a device holds. -/
abbrev part (c : Dev nD) (X : Cert.ReferenceIdeal.S1x2048x16x128.Idx → EReal) : S1x1024x16x128.Idx → EReal :=
  Layout.blockN ⟨4, ![1, 1024, 16, 128]⟩ ⟨4, ![1, 2048, 16, 128]⟩ (Layout.meshBlock [2, 4, 4] ![[], [0], [], []] c) X

theorem part_apply (c : Dev nD) (X : Cert.ReferenceIdeal.S1x2048x16x128.Idx → EReal) (i : Fin 1024) (h : Fin 16) (d : Fin 128) :
    part c X (ix4 0 i h d) = X (ix4 0 (row (half c) i) h d) := by
  have hc : c.val < 32 := c.isLt
  refine congrArg X (funext fun a => Fin.ext ?_)
  match a with
  | ⟨0, _⟩ => rfl
  | ⟨1, _⟩ =>
    show (c.val / 16 % 2 * 1 + 0) * 1024 + i.val = 1024 * (c.val / 16) + i.val
    omega
  | ⟨2, _⟩ => show 0 * 16 + h.val = h.val; omega
  | ⟨3, _⟩ => show 0 * 128 + d.val = d.val; omega

/-- Every index of the whole array is in some device's part. -/
theorem part_onto (x : Cert.ReferenceIdeal.S1x2048x16x128.Idx) :
    ∃ (c : Dev nD) (y : S1x1024x16x128.Idx), ∀ X : Cert.ReferenceIdeal.S1x2048x16x128.Idx → EReal, part c X y = X x := by
  have h0 : (x 0).val < 1 := (x 0).isLt
  have h1 : (x 1).val < 2048 := (x 1).isLt
  refine ⟨⟨16 * ((x 1).val / 1024), by show _ < 32; omega⟩, ix4 0 ⟨(x 1).val % 1024, by omega⟩ (x 2) (x 3), fun X => ?_⟩
  refine (part_apply _ X _ _ _).trans (congrArg X (funext fun a => Fin.ext ?_))
  match a with
  | ⟨0, _⟩ => show 0 = (x 0).val; omega
  | ⟨1, _⟩ =>
    show 1024 * (16 * ((x 1).val / 1024) / 16) + (x 1).val % 1024 = (x 1).val
    omega
  | ⟨2, _⟩ => rfl
  | ⟨3, _⟩ => rfl

/-- A sum over the sequence is the sum over a device's half and its peer's. -/
theorem sum_halves (c : Dev nD) (f : Fin 2048 → EReal) :
    ∑ kk : Fin 2048, f kk = ∑ j : Fin 1024, f (row (half c) j) + ∑ j : Fin 1024, f (row (half (peer c)) j) := by
  have hs : ∑ kk : Fin 2048, f kk = ∑ j : Fin 1024, f (row 0 j) + ∑ j : Fin 1024, f (row 1 j) := by
    refine (Fin.sum_univ_add (a := 1024) (b := 1024) f).trans (congrArg₂ (· + ·) ?_ ?_)
    · exact Finset.sum_congr rfl fun j _ => congrArg f (Fin.ext (by show j.val = 1024 * 0 + j.val; omega))
    · exact Finset.sum_congr rfl fun j _ => congrArg f (Fin.ext (by show 1024 + j.val = 1024 * 1 + j.val; omega))
  have hh : (half c = 0 ∧ half (peer c) = 1) ∨ (half c = 1 ∧ half (peer c) = 0) := by revert c; decide
  rcases hh with ⟨h1, h2⟩ | ⟨h1, h2⟩
  · rw [h1, h2, hs]
  · rw [h1, h2, hs, add_comm]

/-! # The kernel and the reference agree -/

variable (m : (ℓ : Loc nD τ sig) → Buf (Elt Ideal) ℓ) (Q K V : Cert.ReferenceIdeal.S1x2048x16x128.Idx → EReal)
  (hQ : ∀ c, argQ m c = part c Q) (hK : ∀ c, argK m c = part c K) (hV : ∀ c, argV m c = part c V)
include hQ hK in
theorem wt_part (c c' : Dev nD) (h : Fin 16) (i j : Fin 1024) :
    wt (argQ m c) (argK m c') h i j = Whole.wt Q K h (row (half c) i) (row (half c') j) := by
  unfold wt Whole.wt
  refine congrArg Ideal.exp (Finset.sum_congr rfl fun d _ => ?_)
  rw [hQ, hK, part_apply, part_apply]

include hQ hK hV in
/-- **Each device's result is its part of the reference's**, when the queries and the keys are reals. -/
theorem outOf_part (hq : ∀ x, ∃ r : ℝ, Q x = (r : EReal)) (hk : ∀ x, ∃ r : ℝ, K x = (r : EReal)) (c : Dev nD) :
    outOf m c = part c (Cert.ReferenceIdeal.Read.val_main_v13 (F := Ideal) Q K V) := by
  obtain ⟨q, hq⟩ := Classical.axiomOfChoice hq
  obtain ⟨k, hk⟩ := Classical.axiomOfChoice hk
  obtain ⟨s, hs⟩ := Whole.scale_real
  funext x
  obtain ⟨x0, i, h, d, rfl⟩ : ∃ x0 i h d, x = ix4 x0 i h d := ⟨x 0, x 1, x 2, x 3, eq_ix4 x⟩
  obtain rfl : x0 = 0 := Subsingleton.elim _ _
  refine (outOf_apply m c i h d).trans (Eq.symm ?_)
  rw [part_apply]
  refine (Whole.out_apply (V := V) q k s hq hk hs (row (half c) i) h d).trans ?_
  rw [sum_halves c, sum_halves c]
  simp only [wt_part m Q K hQ hK, hV, part_apply]

end Cert.AttnProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Pre_finite_queries_and_keys_KernelIdeal
public import proofs.«01_k».proof.Proof.Gen.Pre_finite_queries_and_keys_KernelIdeal
public import proofs.«01_k».proof.Proof.Gen.Pre_finite_queries_and_keys_ReferenceIdeal
public import proofs.«01_k».proof.Proof.Launch
public import proofs.«01_k».proof.Proof.KRead
public import proofs.«01_k».proof.Proof.RRead
public import proofs.«01_k».proof.Proof.Meet
public import Idealize.ShloMosaic.Adequacy
public import Idealize.ShloMosaic.Init

@[expose] public section

noncomputable section

namespace Cert.Proof

open Idealize.ShloMosaic Idealize.SL.Sem

/-- `Cert.quiescent_Kernel`: on bit patterns the kernel runs to the end on every device, its three argument arrays end
    as they started, and every counter ends at zero. The kernel's text is the idealized kernel's, so this is
    `Cert.AttnProof.run_main` at the bit-pattern floats. -/
theorem frame_kernel : Cert.quiescent_Kernel := fun m ρ _ =>
  (θ_run Cert.KernelIdeal.defs _ _).mono
    (fun _ h => ⟨fun c => ⟨(h.1 c).1.1, (h.1 c).1.2.1, (h.1 c).1.2.2.1⟩, h.2⟩)
    (Cert.AttnProof.run_main (F := Bits) m ρ)

/-- `Cert.quiescent_KernelIdeal`: the same of the kernel over the extended reals. -/
theorem frame_kernelIdeal : Cert.quiescent_KernelIdeal := fun m ρ _ =>
  (θ_run Cert.KernelIdeal.defs _ _).mono
    (fun _ h => ⟨fun c => ⟨(h.1 c).1.1, (h.1 c).1.2.1, (h.1 c).1.2.2.1⟩, h.2⟩)
    (Cert.AttnProof.run_main (F := Ideal) m ρ)

/-- `Cert.quiescent_ReferenceIdeal`: the reference's run, read at its three arguments; it declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealized kernel's frame again, where the queries and the keys are finite: it needs no such thing. -/
theorem frame_kernelIdeal_finite :
    Cert.quiescent_KernelIdeal_pre_finite_queries_and_keys_KernelIdeal := fun m ρ _ => frame_kernelIdeal m ρ trivial

/-- The reference's frame again, where the queries and the keys are finite: it needs no such thing. -/
theorem frame_referenceIdeal_finite :
    Cert.quiescent_ReferenceIdeal_pre_finite_queries_and_keys_ReferenceIdeal := fun m ρ _ => frame_referenceIdeal m ρ trivial

/-- **The value**: with finite queries and keys, over the reals, each device's result is its half of the attention of the
    whole sequence, whatever the values `V` are. -/
theorem algebraic :
    Cert.algebraic_KernelIdeal_ReferenceIdeal_pre_finite_queries_and_keys_KernelIdeal := fun m g m' g' hpre hm => by
  have hq : ∀ x, ∃ r : ℝ, m' (((0 : Dev Cert.ReferenceIdeal.nD).tc : Thread Cert.ReferenceIdeal.nD Cert.ReferenceIdeal.τ).loc Cert.ReferenceIdeal.main_arg0) x = (r : EReal) := fun x => by
    obtain ⟨c, y, e⟩ := Cert.AttnProof.part_onto x
    obtain ⟨r, hr⟩ := (Cert.AttnProof.reals_of_pre _ _ _ (hpre c)).1 y
    exact ⟨r, (e _).symm.trans ((congrFun (hm c).1 y).symm.trans hr)⟩
  have hk : ∀ x, ∃ r : ℝ, m' (((0 : Dev Cert.ReferenceIdeal.nD).tc : Thread Cert.ReferenceIdeal.nD Cert.ReferenceIdeal.τ).loc Cert.ReferenceIdeal.main_arg1) x = (r : EReal) := fun x => by
    obtain ⟨c, y, e⟩ := Cert.AttnProof.part_onto x
    obtain ⟨r, hr⟩ := (Cert.AttnProof.reals_of_pre _ _ _ (hpre c)).2 y
    exact ⟨r, (e _).symm.trans ((congrFun (hm c).2.1 y).symm.trans hr)⟩
  refine ⟨_, (θ_run Cert.KernelIdeal.defs _ _).mono
      (fun _ h c => ⟨(h.1 c).1.2.2.2.trans (Cert.AttnProof.outOf_part m _ _ _ (fun c => (hm c).1) (fun c => (hm c).2.1)
        (fun c => (hm c).2.2) hq hk c), (h.1 c).1.1, (h.1 c).1.2.1, (h.1 c).1.2.2.1⟩)
      (Cert.AttnProof.run_main (F := Ideal) m g), ?_⟩
  exact (θ_run Cert.ReferenceIdeal.defs _ _).mono
    (fun _ h => ⟨(h 0).1.trans (Cert.ReferenceIdeal.Read.val_main_v13_eq _ _ _), (h 0).2⟩)
    (Cert.ReferenceIdeal.Value.run (F := Ideal) m' g')

/-- Every claim of this directory. -/
theorem claim : Cert.Claim :=
  ⟨Cert.Kernel.Gen.facts, Cert.KernelIdeal.Gen.facts, Cert.ReferenceIdeal.Gen.facts,
    Cert.Pre_finite_queries_and_keys_KernelIdeal.Gen.facts, Cert.Pre_finite_queries_and_keys_ReferenceIdeal.Gen.facts,
    frame_kernel, frame_kernelIdeal, frame_kernelIdeal_finite, frame_referenceIdeal, frame_referenceIdeal_finite,
    trivial, algebraic⟩

end Cert.Proof

end
